-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal (hKernelIdeal := hKernelIdeal) (hReferenceIdeal := hReferenceIdeal) (hPre_lengths_in_range := hPre_lengths_in_range)
-- ==== Pre_lengths_in_range.lean ====
abbrev S16x4096x256 : Shape := ⟨3, ![16, 4096, 256]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x4096x256 .f32) (main_arg1 : IVec S16 32) (main_arg2 : FVec F S16x4096x256 .f32) (main_arg3 : IVec S16 32) (main_arg4 : FVec F S1024x512 .f32) (main_arg5 : FVec F S512 .f32) (main_arg6 : FVec F S512x128 .f32) (main_arg7 : FVec F S128 .f32) : IVec S16 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 1#32
  let main_v5 : IVec S16 32 := broadcastInDim S16 ![] bcast_S_S16 main_c_1
  let main_v6 : IVec S16 1 := cmpi .sge main_arg3 main_v5
  let main_c_2 : IVec S_ 32 := constantI S_ 32 4096#32
  let main_v7 : IVec S16 32 := broadcastInDim S16 ![] bcast_S_S16 main_c_2
  let main_v8 : IVec S16 1 := cmpi .sle main_arg3 main_v7
  let main_v9 : IVec S16 1 := andi main_v6 main_v8
  let main_v10 : IVec S16 1 := andi main_v4 main_v9
  main_v10
-- ==== Kernel.lean ====
abbrev S16x4096x256 : Shape := ⟨3, ![16, 4096, 256]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S16x1 : Shape := ⟨2, ![16, 1]⟩
abbrev S1x512 : Shape := ⟨2, ![1, 512]⟩
abbrev S1x128 : Shape := ⟨2, ![1, 128]⟩
abbrev S16x128 : Shape := ⟨2, ![16, 128]⟩
abbrev S1x512x256 : Shape := ⟨3, ![1, 512, 256]⟩
abbrev S1 : Shape := ⟨1, ![1]⟩
abbrev S16x256 : Shape := ⟨2, ![16, 256]⟩
abbrev S512x256 : Shape := ⟨2, ![512, 256]⟩
abbrev S256 : Shape := ⟨1, ![256]⟩
abbrev S1x256 : Shape := ⟨2, ![1, 256]⟩
abbrev S16x1024 : Shape := ⟨2, ![16, 1024]⟩
abbrev S16x512 : Shape := ⟨2, ![16, 512]⟩

abbrev nBuf : Space → Nat
  | .hbm => 13
  | .vmem => 13
  | .smem => 2
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S1024x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S16, .f32⟩
  | .hbm, ⟨7, _⟩ => ⟨S16x1, .f32⟩
  | .hbm, ⟨8, _⟩ => ⟨S16, .f32⟩
  | .hbm, ⟨9, _⟩ => ⟨S16x1, .f32⟩
  | .hbm, ⟨10, _⟩ => ⟨S1x512, .f32⟩
  | .hbm, ⟨11, _⟩ => ⟨S1x128, .f32⟩
  | .hbm, ⟨12, _⟩ => ⟨S16x128, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S16x1, .f32⟩
  | .local _ .vmem, ⟨5, _⟩ => ⟨S16x1, .f32⟩
  | .local _ .vmem, ⟨6, _⟩ => ⟨S1024x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S16x128, .f32⟩
  | .local _ .vmem, ⟨11, _⟩ => ⟨S16x256, .f32⟩
  | .local _ .vmem, ⟨12, _⟩ => ⟨S16x256, .f32⟩
  | .local _ .smem, ⟨0, _⟩ => ⟨S16, .i32⟩
  | .local _ .smem, ⟨1, _⟩ => ⟨S16, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![16, 8], ![false, false]⟩

abbrev pre0 : Pipeline.Prefetch sig := ⟨2, ![main_arg1.idx, main_arg3.idx], fun | 0 => main_arg1.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_4 : BitVec 32 := 0#32
  let v28 : BitVec 1 := Scalar.cmpi .eq arg1 c0_i32_4
  let v29 : BitVec 32 := Scalar.extui v28
  let c0_i32_5 : BitVec 32 := 0#32
  let v30 : BitVec 1 := Scalar.cmpi .ne v29 c0_i32_5
  v30

def k0_off2 (i : grid0.Coords) : Fin 2 → Nat :=
  let arg0 : BitVec 32 := BitVec.ofNat 32 (i 0).val
  let v34 : Index := Scalar.indexCast arg0
  let c0_8 : Index := 0#32
  ![v34.toNat, 0]
def k0_cond3 (i : grid0.Coords) : BitVec 1 :=
  let arg1 : BitVec 32 := BitVec.ofNat 32 (i 1).val
  let c0_i32_6 : BitVec 32 := 0#32
  let v31 : BitVec 1 := Scalar.cmpi .sgt arg1 c0_i32_6
  let v32 : BitVec 32 := Scalar.extui v31
  let c0_i32_7 : BitVec 32 := 0#32
  let v33 : BitVec 1 := Scalar.cmpi .ne v32 c0_i32_7
  v33

def k0_off3 (i : grid0.Coords) : Fin 2 → Nat :=
  let arg0 : BitVec 32 := BitVec.ofNat 32 (i 0).val
  let v34 : Index := Scalar.indexCast arg0
  let c0_8 : Index := 0#32
  ![v34.toNat, 0]
def k0_off4 (i : grid0.Coords) : Fin 1 → Nat :=
  let arg0 : BitVec 32 := BitVec.ofNat 32 (i 0).val
  let v9 : Index := Scalar.indexCast arg0
  ![v9.toNat]
def k0_cond5 (i : grid0.Coords) : BitVec 1 :=
  let arg1 : BitVec 32 := BitVec.ofNat 32 (i 1).val
  let c0_i32_4 : BitVec 32 := 0#32
  let v28 : BitVec 1 := Scalar.cmpi .eq arg1 c0_i32_4
  let v29 : BitVec 32 := Scalar.extui v28
  let c0_i32_5 : BitVec 32 := 0#32
  let v30 : BitVec 1 := Scalar.cmpi .ne v29 c0_i32_5
  v30

def k0_off5 (i : grid0.Coords) : Fin 2 → Nat :=
  let arg0 : BitVec 32 := BitVec.ofNat 32 (i 0).val
  let v34 : Index := Scalar.indexCast arg0
  let c0_8 : Index := 0#32
  ![v34.toNat, 0]
def k0_cond6 (i : grid0.Coords) : BitVec 1 :=
  let arg1 : BitVec 32 := BitVec.ofNat 32 (i 1).val
  let c0_i32_6 : BitVec 32 := 0#32
  let v31 : BitVec 1 := Scalar.cmpi .sgt arg1 c0_i32_6
  let v32 : BitVec 32 := Scalar.extui v31
  let c0_i32_7 : BitVec 32 := 0#32
  let v33 : BitVec 1 := Scalar.cmpi .ne v32 c0_i32_7
  v33

def k0_off6 (i : grid0.Coords) : Fin 2 → Nat :=
  let arg0 : BitVec 32 := BitVec.ofNat 32 (i 0).val
  let v34 : Index := Scalar.indexCast arg0
  let c0_8 : Index := 0#32
  ![v34.toNat, 0]
def k0_cond7 (i : grid0.Coords) : BitVec 1 :=
  let arg0 : BitVec 32 := BitVec.ofNat 32 (i 0).val
  let c15_i32 : BitVec 32 := 15#32
  let v14 : BitVec 1 := Scalar.cmpi .eq arg0 c15_i32
  let arg1 : BitVec 32 := BitVec.ofNat 32 (i 1).val
  let c7_i32 : BitVec 32 := 7#32
  let v15 : BitVec 1 := Scalar.cmpi .eq arg1 c7_i32
  let v16 : BitVec 1 := Scalar.andi v14 v15
  let v17 : BitVec 32 := Scalar.extui v16
  let c0_i32_1 : BitVec 32 := 0#32
  let v18 : BitVec 1 := Scalar.cmpi .ne v17 c0_i32_1
  v18

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S16) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c0_i32_7 : BitVec 32 := 0#32
  let c0_i32_8 : BitVec 32 := 0#32
  ![arg0.toNat, v22.toNat, c0_i32_7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S16x4096x256 : Shape := ⟨3, ![16, 4096, 256]⟩
abbrev S16 : Shape := ⟨1, ![16]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S_ : Shape := ⟨0, ![]⟩
abbrev S16x256 : Shape := ⟨2, ![16, 256]⟩
abbrev S16x1024 : Shape := ⟨2, ![16, 1024]⟩
abbrev S16x512 : Shape := ⟨2, ![16, 512]⟩
abbrev S1x512 : Shape := ⟨2, ![1, 512]⟩
abbrev S16x128 : Shape := ⟨2, ![16, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16, .i32⟩
  | .hbm, ⟨2, _⟩ => ⟨S16x4096x256, .f32⟩
  | .hbm, ⟨3, _⟩ => ⟨S16, .i32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S4096, .i32⟩
  | .hbm, ⟨9, _⟩ => ⟨S1x4096, .i32⟩
  | .hbm, ⟨10, _⟩ => ⟨S16x1, .i32⟩
  | .hbm, ⟨11, _⟩ => ⟨S16x4096, .i32⟩
  | .hbm, ⟨12, _⟩ => ⟨S16x4096, .i32⟩
  | .hbm, ⟨13, _⟩ => ⟨S16x4096, .i1⟩
  | .hbm, ⟨14, _⟩ => ⟨S16x4096, .f32⟩
  | .hbm, ⟨15, _⟩ => ⟨S16x4096x1, .f32⟩
  | .hbm, ⟨16, _⟩ => ⟨S16x4096x256, .f32⟩
  | .hbm, ⟨17, _⟩ => ⟨S16x4096x256, .f32⟩
  | .hbm, ⟨18, _⟩ => ⟨S_, .f32⟩
  | .hbm, ⟨19, _⟩ => ⟨S16x256, .f32⟩
  | .hbm, ⟨20, _⟩ => ⟨S16x1, .i32⟩
  | .hbm, ⟨21, _⟩ => ⟨S16x1, .f32⟩
  | .hbm, ⟨22, _⟩ => ⟨S16x256, .f32⟩
  | .hbm, ⟨23, _⟩ => ⟨S16x256, .f32⟩
  | .hbm, ⟨24, _⟩ => ⟨S4096, .i32⟩
  | .hbm, ⟨25, _⟩ => ⟨S1x4096, .i32⟩
  | .hbm, ⟨26, _⟩ => ⟨S16x1, .i32⟩
  | .hbm, ⟨27, _⟩ => ⟨S16x4096, .i32⟩
  | .hbm, ⟨28, _⟩ => ⟨S16x4096, .i32⟩
  | .hbm, ⟨29, _⟩ => ⟨S16x4096, .i1⟩
  | .hbm, ⟨30, _⟩ => ⟨S16x4096, .f32⟩
  | .hbm, ⟨31, _⟩ => ⟨S16x4096x1, .f32⟩
  | .hbm, ⟨32, _⟩ => ⟨S16x4096x256, .f32⟩
  | .hbm, ⟨33, _⟩ => ⟨S16x4096x256, .f32⟩
  | .hbm, ⟨34, _⟩ => ⟨S_, .f32⟩
  | .hbm, ⟨35, _⟩ => ⟨S16x256, .f32⟩
  | .hbm, ⟨36, _⟩ => ⟨S16x1, .i32⟩
  | .hbm, ⟨37, _⟩ => ⟨S16x1, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S16x256, .f32⟩
  | .hbm, ⟨42, _⟩ => ⟨S16x256, .f32⟩
  | .hbm, ⟨43, _⟩ => ⟨S16x1024, .f32⟩
  | .hbm, ⟨44, _⟩ => ⟨S16x512, .f32⟩
  | .hbm, ⟨45, _⟩ => ⟨S1x512, .f32⟩
  | .hbm, ⟨46, _⟩ => ⟨S16x512, .f32⟩
  | .hbm, ⟨47, _⟩ => ⟨S16x512, .f32⟩
  | .hbm, ⟨48, _⟩ => ⟨S_, .f32⟩
  | .hbm, ⟨49, _⟩ => ⟨S16x512, .f32⟩
  | .hbm, ⟨50, _⟩ => ⟨S16x512, .f32⟩
  | .hbm, ⟨51, _⟩ => ⟨S16x128, .f32⟩
  | .hbm, ⟨52, _⟩ => ⟨S1x128, .f32⟩
  | .hbm, ⟨53, _⟩ => ⟨S16x128, .f32⟩
  | .hbm, ⟨54, _⟩ => ⟨S16x128, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_cst : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Kit.lean ====
/- The launch's set-up: what the buffers hold when the pallas_call is entered, the two prefetched length tables, the
   windows' blocks, and where the grid's points stand. Everything here is stated for any float values `F`. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer `b` after the six host operations that precede the pallas_call. -/
abbrev V (c : Dev nD) (b : Ref sig .tc) : Buf (Elt F) ((c : Thread nD τ).loc b) :=
  StableHlo.after hostOps0 (fun b => m (c, b)) b

/-- None of the host operations before the region allocates a buffer. -/
theorem hostOps0_fresh : (hostOps0 : List (HloOp τ sig (Elt F))).Forall fun op => op.fresh = ∅ := by
  simp only [List.Forall]; repeat' constructor

set_option maxHeartbeats 800000 in
/-- @main runs the host operations and then enters the region with the buffers at `V`. -/
theorem hmain (𝒱₀ : Variants) : Pipeline.HMainP (Ix := Unit) (Name := ℕ) (U := UR sig nD τ) (Lvl := ℕ)
    pcfgs 0 defs₀ 𝒱₀ m (main (F := F)) (V m) :=
  Pipeline.hmainP_prefix pcfgs 0 defs₀ 𝒱₀ m main hostOps0 hostOps0_sub hostOps0_fresh main_chain

/-- A buffer that is none of the six host operations' results holds at the region's entry what it was launched with. -/
theorem V_unwritten (c : Dev nD) (b : Ref sig .tc)
    (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    obtain ⟨h0, h1, h2, h3, h4, h5⟩ := hb
    simp only [hostOps0, List.flatten_cons, List.flatten_nil, List.append_nil, List.cons_append, List.nil_append,
      List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## The prefetched tables -/

/-- The two length tables as the region finds them. -/
def tbl : pre0.Contents (Elt F) := fun j => V m (0 : Dev nD) (pre0.ref j)

/-- Every device holds those tables: there is one device. -/
theorem V_pre (c : Dev nD) (j : Fin 2) : V m c (pre0.ref j) = tbl m j := by
  obtain rfl : c = 0 := Subsingleton.elim _ _; rfl

/-- The pipeline's side condition on the tables: every block the index maps name lies inside its array. -/
abbrev Ok : Prop := ok0 (F := F) (tbl m)

/-- The tables as contents the pipeline admits. -/
abbrev adm (hO : Ok m) : (pcfg0 (F := F)).Adm := ⟨tbl m, hO⟩

/-- The pipeline at those tables. -/
abbrev cfgM (hO : Ok m) : Pipeline.Cfg sig Λ₀ := cfg0 (adm m hO)

/-- The first length table as the body is handed it. -/
abbrev tab0 : Memref sig .tc .smem S16 .i32 := Memref.whole main_arg1
/-- The second length table as the body is handed it. -/
abbrev tab1 : Memref sig .tc .smem S16 .i32 := Memref.whole main_arg3

/-- What a table's buffer on core `c` may hold. -/
abbrev TabBuf (c : Dev nD) {S : Shape} {e : EltTy} (M : Memref sig .tc .smem S e) : Type :=
  Buf (Elt F) (M.view.loc (c : Thread nD τ))

/-- Core `c` holds half of a table's buffer, at contents `f`: enough to read it. -/
abbrev tabPt (c : Dev nD) {S : Shape} {e : EltTy} (M : Memref sig .tc .smem S e) (f : TabBuf (F := F) c M) : sProp 𝕄 :=
  M.view.loc (c : Thread nD τ) ↦{fullShare.right} f

/-- The halves of the tables the region hands the body, one by one. -/
theorem PhiT_eq (c : Dev nD) :
    (Pipeline.ΦT pre0 (tbl m) c : sProp 𝕄) = iprop(tabPt c tab0 (tbl m 0) ∗ tabPt c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The scratch buffers -/

/-- The accumulator of the first input's sums. -/
abbrev acc0 : Memref sig .tc .vmem S16x256 .f32 := Memref.whole cc0_scratch0
/-- The accumulator of the second input's sums. -/
abbrev acc1 : Memref sig .tc .vmem S16x256 .f32 := Memref.whole cc0_scratch1

/-- What the region hands over besides windows and tables: the two accumulators at some contents, and the random-number
register at some state. -/
theorem PhiA_eq (c : Dev nD) :
    (Pipeline.ΦA spec0 c : sProp 𝕄)
      = iprop(iprop((∃ d, owns (c : Thread nD τ) acc0 fullShare d) ∗ (∃ d, owns (c : Thread nD τ) acc1 fullShare d))
          ∗ (∃ r, prngReg c r)) := by
  unfold Pipeline.ΦA; rw [scopedRest0_eq]; simp only [acc0, acc1, owns_whole]; try rfl

/-! ## The windows' blocks -/

/-- Window `w`'s block at point `t`, read off its array as the region finds it. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## The grid's points -/

/-- Point `t`'s first coordinate: the batch row. -/
theorem coord0 (t : Fin grid0.N) : (grid0.coords t 0).val = t.val / 8 := by
  have ht : t.val < 128 := Nat.lt_of_lt_of_eq t.isLt N_0
  have e : (grid0.coords t 0).val = t.val / 8 % 16 := Pipeline.Grid.coords_val t 0 (by decide) rfl
  omega

/-- Point `t`'s second coordinate: the block of positions. -/
theorem coord1 (t : Fin grid0.N) : (grid0.coords t 1).val = t.val % 8 := by
  have e : (grid0.coords t 1).val = t.val / 1 % 8 := Pipeline.Grid.coords_val t 1 (by decide) rfl
  omega

/-- A grid coordinate's word is the first block's exactly where the coordinate is zero. -/
theorem cond_first (i : grid0.Coords) : k0_cond2 i = 1#1 ↔ (i 1).val = 0 :=
  (by decide : ∀ n : Fin 8, Scalar.cmpi .ne (Scalar.extui (Scalar.cmpi .eq (BitVec.ofNat 32 n.val) 0#32)) 0#32 = 1#1
    ↔ n.val = 0) (i 1)

/-- A grid coordinate's word is a later block's exactly where the coordinate is not zero. -/
theorem cond_later (i : grid0.Coords) : k0_cond3 i = 1#1 ↔ (i 1).val ≠ 0 :=
  (by decide : ∀ n : Fin 8, Scalar.cmpi .ne (Scalar.extui (Scalar.cmpi .sgt (BitVec.ofNat 32 n.val) 0#32)) 0#32 = 1#1
    ↔ n.val ≠ 0) (i 1)

/-- The last condition holds at the grid's last point only. -/
theorem cond_last (t : Fin grid0.N) : k0_cond7 (grid0.coords t) = 1#1 ↔ t.val = 127 := by
  have ht : t.val < 128 := Nat.lt_of_lt_of_eq t.isLt N_0
  have h : k0_cond7 (grid0.coords t) = 1#1 ↔ (grid0.coords t 0).val = 15 ∧ (grid0.coords t 1).val = 7 :=
    (by decide : ∀ (a : Fin 16) (b : Fin 8), Scalar.cmpi .ne (Scalar.extui (Scalar.andi
      (Scalar.cmpi .eq (BitVec.ofNat 32 a.val) 15#32) (Scalar.cmpi .eq (BitVec.ofNat 32 b.val) 7#32))) 0#32 = 1#1
      ↔ a.val = 15 ∧ b.val = 7) (grid0.coords t 0) (grid0.coords t 1)
  rw [h, coord0, coord1]; omega

/-- The row offset of a load or store of an accumulator is the batch row. -/
theorem off_row (i : grid0.Coords) : k0_off2 i = ![(i 0).val, 0] :=
  (by decide : ∀ n : Fin 16, (![(Scalar.indexCast (BitVec.ofNat 32 n.val)).toNat, 0] : Fin 2 → Nat) = ![n.val, 0]) (i 0)

end Cert.KernelIdeal.Pool

end
-- ==== Proof.Step.lean ====
/- One input's share of the kernel body at a grid point, as a program that runs a given rest afterwards, and what it
   does: it replaces the accumulator's row of the point's batch row, or leaves the accumulator alone. -/
module

public import proofs.«01_k».proof.Proof.Kit
public import Idealize.ShloMosaic.Lib.WritesUnit
public import Idealize.ShloMosaic.Lib.Pipeline.Value
public import Idealize.ShloMosaic.Lib.ValueIdx

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2)

/-- The word a table held at contents `xt` gives the point `i`: its batch row's length. -/
abbrev word (c : Dev nD) (i : grid0.Coords) (tab : Memref sig .tc .smem S16 .i32) (xt : TabBuf (F := F) c tab) : Elt F .i32 :=
  tab.view.readAt (Elt F) (Rect.unit (s := S16) (k0_off1 i) S1.size (k0_off1_inb i)).toLoadRect xt
    (Shape.Idx.first (numel1_S1.symm ▸ Nat.one_pos))

/-- The point's block of positions starts before the length `w`. -/
abbrev Reached (i : grid0.Coords) (w : Elt F .i32) : Prop :=
  Scalar.cmpi .ne (Scalar.extui (Scalar.cmpi .slt (Scalar.muli (BitVec.ofNat 32 (i 1).val) 512#32) w)) 0#32 = 1#1

/-- One input's share of the body: read the length, and where the block is reached add the block's masked sum into the
accumulator's row (at the first block, store it there); then run `rest`. -/
noncomputable def accumThen (i : grid0.Coords) (tab : Memref sig .tc .smem S16 .i32)
    (x : Memref sig .tc .vmem S1x512x256 .f32) (e : Memref sig .tc .vmem S16x256 .f32)
    (rest : Prog (TpuEff nD τ sig (Elt F) Λ₀ .tc) PUnit) : Prog (TpuEff nD τ sig (Elt F) Λ₀ .tc) PUnit := do
  let w : Elt F .i32 ← smemLoad tab (Rect.unit (s := S16) (k0_off1 i) S1.size (k0_off1_inb i)) numel1_S1 rfl
  if Scalar.cmpi .ne (Scalar.extui (Scalar.cmpi .slt (Scalar.muli (BitVec.ofNat 32 (i 1).val) 512#32) w)) 0#32 = 1#1 then do
    let b : Vec F S1x512x256 .f32 ← Prog.lift (.load x (Rect.unit (s := S1x512x256) ![0, 0, 0] S1x512x256.size
      inb_S1x512x256_S1x512x256_0_0_0).toLoadRect (View.loadsAt_vmem h_S1x512x256))
    if h2 : k0_cond2 i = 1#1 then do
      let _r : Vec F S1x256 .f32 ← Prog.lift (.load e (Rect.unit (s := S16x256) (k0_off2 i) S1x256.size
        (k0_off2_inb i h2)).toLoadRect (View.loadsAt_vmem h_S1x256))
      Prog.lift (.store e (Rect.unit (s := S16x256) (k0_off2 i) S1x256.size (k0_off2_inb i h2)) (k0_pay3 i w b)
        Finset.univ (View.stores_vmem_bits_univ h_S1x256 rfl) (.inl rfl))
      pure ⟨⟩
    else do
      pure ⟨⟩
    if h3 : k0_cond3 i = 1#1 then do
      let r : Vec F S1x256 .f32 ← Prog.lift (.load e (Rect.unit (s := S16x256) (k0_off3 i) S1x256.size
        (k0_off3_inb i h3)).toLoadRect (View.loadsAt_vmem h_S1x256))
      let _r' : Vec F S1x256 .f32 ← Prog.lift (.load e (Rect.unit (s := S16x256) (k0_off3 i) S1x256.size
        (k0_off3_inb i h3)).toLoadRect (View.loadsAt_vmem h_S1x256))
      Prog.lift (.store e (Rect.unit (s := S16x256) (k0_off3 i) S1x256.size (k0_off3_inb i h3)) (k0_pay4 i w b r)
        Finset.univ (View.stores_vmem_bits_univ h_S1x256 rfl) (.inl rfl))
      pure ⟨⟩
    else do
      pure ⟨⟩
    pure ⟨⟩
  else do
    pure ⟨⟩
  rest

/-- Row `i 0` of an accumulator, as a one-row array. -/
def rowOf (i : grid0.Coords) (d : Vec F S16x256 .f32) : Vec F S1x256 .f32 := fun z => d (ix2 (i 0) (z 1))

/-- An accumulator with row `i 0` replaced by `p`. -/
def putRow (i : grid0.Coords) (p : Vec F S1x256 .f32) (d : Vec F S16x256 .f32) : Vec F S16x256 .f32 :=
  fun y => if (y 0).val = (i 0).val then p (ix2 (0 : Fin 1) (y 1)) else d y

/-- What one input's share of the body leaves in its accumulator: with the block not reached, what it found; at the
first block, the block's sum in the batch row; at a later block, the batch row and the block's sum added. -/
def step (i : grid0.Coords) (w : Elt F .i32) (b : Vec F S1x512x256 .f32) (d : Vec F S16x256 .f32) : Vec F S16x256 .f32 :=
  if Reached i w then putRow i (if (i 1).val = 0 then k0_pay3 i w b else k0_pay4 i w b (rowOf i d)) d else d

/-- A store of one whole row through an accumulator's memref, read back: the row replaced. -/
theorem read_putRow (e : Memref sig .tc .vmem S16x256 .f32) (f : e.view.ty.Contents (Elt F)) (i : grid0.Coords)
    (off : Fin 2 → Nat) (hoff : off = ![(i 0).val, 0]) (inb : ∀ a, off a + S1x256.size a ≤ S16x256.size a)
    (p : Vec F S1x256 .f32) :
    e.view.read (Elt F) (e.view.writes (Elt F) f [(⟨Rect.unit (s := S16x256) off S1x256.size inb, p⟩ : View.Piece (Elt F) S16x256 .f32)])
      = putRow i p (e.view.read (Elt F) f) := by
  funext y
  rw [View.read_writes_cons_rows (d := ![16, 256]) (o := (i 0).val) (W := 1) e.view f inb p [] y hoff rfl rfl]
  unfold putRow
  by_cases h : (y 0).val = (i 0).val
  · rw [dif_pos ⟨le_of_eq h.symm, by omega⟩, if_pos h]
    congr 1
    funext a
    refine Fin.ext ?_
    match a with
    | ⟨0, _⟩ => show (y 0).val - (i 0).val = 0; omega
    | ⟨1, _⟩ => show (y 1).val - 0 = (y 1).val; omega
  · rw [dif_neg (fun hh => h (by omega)), if_neg h]
    rfl

/-- A load of one whole row of an accumulator. -/
theorem ld_row (d : Vec F S16x256 .f32) (i : grid0.Coords) (off : Fin 2 → Nat) (hoff : off = ![(i 0).val, 0])
    (inb : ∀ a, off a + S1x256.size a ≤ S16x256.size a) :
    View.ld d (Rect.unit (s := S16x256) off S1x256.size inb) = rowOf i d := by
  subst hoff
  funext z
  show d _ = d _
  congr 1
  funext a
  refine Fin.ext ?_
  have h0 : (z 0).val < 1 := (z 0).isLt
  match a with
  | ⟨0, _⟩ => show (i 0).val + 1 * (z 0).val = (i 0).val; omega
  | ⟨1, _⟩ => show 0 + 1 * (z 1).val = (z 1).val; omega

end Cert.KernelIdeal.Pool

end
-- ==== Proof.Fold.lean ====
/- An input's accumulator over the grid's points: what it holds before each point, and that after the last point this does
   not depend on what it held at the start. -/
module

public import proofs.«01_k».proof.Proof.Step

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)

/-- An accumulator before point `n`, from contents `d` before point 0: the points' steps in order, with the lengths and
the blocks they find. -/
def fold (wd : Fin grid0.N → Elt F .i32) (bk : Fin grid0.N → Vec F S1x512x256 .f32) (d : Vec F S16x256 .f32) :
    ℕ → Vec F S16x256 .f32
  | 0 => d
  | n + 1 => if h : n < grid0.N then step (grid0.coords ⟨n, h⟩) (wd ⟨n, h⟩) (bk ⟨n, h⟩) (fold wd bk d n) else fold wd bk d n

/-- The accumulator after point `t` is the step of the accumulator before it. -/
theorem fold_succ (wd : Fin grid0.N → Elt F .i32) (bk : Fin grid0.N → Vec F S1x512x256 .f32) (d : Vec F S16x256 .f32)
    (t : Fin grid0.N) : fold wd bk d (t.val + 1) = step (grid0.coords t) (wd t) (bk t) (fold wd bk d t.val) := by
  rw [fold, dif_pos t.isLt]

/-- A step at an index of another row than the point's leaves what was there. -/
theorem step_other (i : grid0.Coords) (w : Elt F .i32) (b : Vec F S1x512x256 .f32) (d : Vec F S16x256 .f32)
    (y : S16x256.Idx) (h : (y 0).val ≠ (i 0).val) : step i w b d y = d y := by
  unfold step
  split
  · unfold putRow; rw [if_neg h]
  · rfl

/-- A step at the point's own row, where the block is reached. -/
theorem step_own (i : grid0.Coords) (w : Elt F .i32) (b : Vec F S1x512x256 .f32) (d : Vec F S16x256 .f32)
    (y : S16x256.Idx) (h : (y 0).val = (i 0).val) (hr : Reached i w) :
    step i w b d y = (if (i 1).val = 0 then k0_pay3 i w b else k0_pay4 i w b (rowOf i d)) (ix2 (0 : Fin 1) (y 1)) := by
  unfold step
  rw [if_pos hr]
  unfold putRow
  rw [if_pos h]

/-- Where every row's first block is reached, a row whose first point is past does not depend on the accumulator's first
contents. -/
theorem fold_indep (wd : Fin grid0.N → Elt F .i32) (bk : Fin grid0.N → Vec F S1x512x256 .f32)
    (hfirst : ∀ t : Fin grid0.N, (grid0.coords t 1).val = 0 → Reached (grid0.coords t) (wd t)) (d d' : Vec F S16x256 .f32)
    (n : ℕ) (hn : n ≤ grid0.N) (y : S16x256.Idx) (hy : 8 * (y 0).val < n) : fold wd bk d n y = fold wd bk d' n y := by
  induction n generalizing y with
  | zero => omega
  | succ n ih =>
    have hlt : n < grid0.N := hn
    rw [fold_succ wd bk d ⟨n, hlt⟩, fold_succ wd bk d' ⟨n, hlt⟩]
    have e0 := coord0 ⟨n, hlt⟩
    have e1 := coord1 ⟨n, hlt⟩
    simp only at e0 e1
    by_cases h : (y 0).val = (grid0.coords ⟨n, hlt⟩ 0).val
    · by_cases hr : Reached (grid0.coords ⟨n, hlt⟩) (wd ⟨n, hlt⟩)
      · rw [step_own _ _ _ _ y h hr, step_own _ _ _ _ y h hr]
        by_cases hz : (grid0.coords ⟨n, hlt⟩ 1).val = 0
        · rw [if_pos hz, if_pos hz]
        · rw [if_neg hz, if_neg hz]
          have hrow : rowOf (grid0.coords ⟨n, hlt⟩) (fold wd bk d n) = rowOf (grid0.coords ⟨n, hlt⟩) (fold wd bk d' n) := by
            funext z
            refine ih (by omega) _ ?_
            show 8 * (grid0.coords ⟨n, hlt⟩ 0).val < n
            omega
          rw [hrow]
      · have hz : (grid0.coords ⟨n, hlt⟩ 1).val ≠ 0 := fun hz => hr (hfirst _ hz)
        unfold step
        rw [if_neg hr, if_neg hr]
        exact ih (by omega) y (by omega)
    · rw [step_other _ _ _ _ y h, step_other _ _ _ _ y h]
      exact ih (by omega) y (by omega)

end Cert.KernelIdeal.Pool

end
-- ==== Proof.Triple.lean ====
/- What one input's share of the kernel body does to the buffers it uses, run before any rest. -/
module

public import proofs.«01_k».proof.Proof.Step

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One input's share of the body at point `i`, on a whole block holding `b`, a table holding `xt` and a whole
accumulator holding `d`: it hands the block and the table back as they were and the accumulator at `step`, and goes on to
the rest. -/
theorem wp_accumThen (c : Dev nD) (i : grid0.Coords) (tab : Memref sig .tc .smem S16 .i32)
    (x : Memref sig .tc .vmem S1x512x256 .f32) (hx : x.IsWhole) (e : Memref sig .tc .vmem S16x256 .f32) (he : e.IsWhole)
    (rest : Prog (TpuEff nD τ sig (Elt F) Λ₀ .tc) PUnit) (b : Vec F S1x512x256 .f32) (xt : TabBuf (F := F) c tab)
    (d : Vec F S16x256 .f32) (E : Set ℕ) (K : PUnit → sProp 𝕄) :
    iprop(owns (c : Thread nD τ) x fullShare b ∗ owns (c : Thread nD τ) e fullShare d ∗ tabPt c tab xt
        ∗ (iprop(owns (c : Thread nD τ) x fullShare b ∗ owns (c : Thread nD τ) e fullShare (step i (word c i tab xt) b d)
            ∗ tabPt c tab xt) -∗ wp frame (wpE (defs₀ (F := F)) Variants.none c none) E rest K))
      ⊢ wp frame (wpE (defs₀ (F := F)) Variants.none c none) E (accumThen i tab x e rest) K := by
  unfold accumThen
  unfold owns
  iintro ⟨⟨%f0, %hf0, H0⟩, ⟨%f1, %hf1, H1⟩, HT, Hk⟩
  obtain rfl := hx.eq_unread hf0
  obtain rfl := he.eq_unread hf1
  have hb : View.readAt (Elt F) x.view (Rect.unit (s := S1x512x256) ![0, 0, 0] S1x512x256.size
      inb_S1x512x256_S1x512x256_0_0_0).toLoadRect (hx.unread b) = b :=
    (View.ld_unit_zero (by funext a; fin_cases a <;> rfl) _ _).trans (hx.read_unread b)
  by_cases hr : Reached i (word c i tab xt)
  · by_cases hz : (i 1).val = 0
    · have h2 : k0_cond2 i = 1#1 := (cond_first i).2 hz
      have h3 : ¬ k0_cond3 i = 1#1 := fun h => (cond_later i).1 h hz
      sl_exec (disch := first | sl_exact hr | sl_exact h2 | sl_exact h3)
      iapply Hk
      isplitl [H0]
      · iexists _; isplitr; · ipureintro; exact hx.read_unread _
        iexact H0
      isplitl [H1]
      · iexists _; isplitr
        swap; · iexact H1
        ipureintro
        refine (read_putRow e _ i _ (off_row i) _ _).trans ?_
        rw [he.read_unread, step, if_pos hr, if_pos hz]
        rfl
      iexact HT
    · have h2 : ¬ k0_cond2 i = 1#1 := fun h => hz ((cond_first i).1 h)
      have h3 : k0_cond3 i = 1#1 := (cond_later i).2 hz
      sl_exec (disch := first | sl_exact hr | sl_exact h2 | sl_exact h3)
      iapply Hk
      isplitl [H0]
      · iexists _; isplitr; · ipureintro; exact hx.read_unread _
        iexact H0
      isplitl [H1]
      · iexists _; isplitr
        swap; · iexact H1
        ipureintro
        refine (read_putRow e _ i _ (off_row i) _ _).trans ?_
        rw [he.read_unread, step, if_pos hr, if_neg hz]
        have hl := (ld_row (e.view.read (Elt F) (he.unread d)) i _ (off_row i) (k0_off3_inb i h3)).trans
          (by rw [he.read_unread] : _ = rowOf i d)
        exact congrArg (fun r => putRow i (k0_pay4 i (word c i tab xt) b r) d) hl
      iexact HT
  · sl_exec (disch := first | sl_exact hr)
    iapply Hk
    isplitl [H0]
    · iexists _; isplitr; · ipureintro; exact hx.read_unread _
      iexact H0
    isplitl [H1]
    · iexists _; isplitr
      swap; · iexact H1
      ipureintro
      rw [he.read_unread, step, if_neg hr]
    iexact HT

end Cert.KernelIdeal.Pool

end
-- ==== Proof.Last.lean ====
/- The kernel body as its three parts: the two inputs' shares, and what the last point does with the accumulators. -/
module

public import proofs.«01_k».proof.Proof.Triple

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last part of the body: at the last point, the perceptron of the two accumulators over their lengths, stored into
the output block. -/
noncomputable def lastPart (i : grid0.Coords) (arg6 arg7 : Memref sig .tc .vmem S16x1 .f32)
    (arg8 : Memref sig .tc .vmem S1024x512 .f32) (arg9 : Memref sig .tc .vmem S1x512 .f32)
    (arg10 : Memref sig .tc .vmem S512x128 .f32) (arg11 : Memref sig .tc .vmem S1x128 .f32)
    (arg12 : Memref sig .tc .vmem S16x128 .f32) (arg13 arg14 : Memref sig .tc .vmem S16x256 .f32) :
    Prog (TpuEff nD τ sig (Elt F) Λ₀ .tc) PUnit := do
  if h7 : k0_cond7 i = 1#1 then do
    let s1 : Vec F S16x256 .f32 ← Prog.lift (.load arg13 (Rect.unit (s := S16x256) ![0, 0] S16x256.size inb_S16x256_S16x256_0_0).toLoadRect (View.loadsAt_vmem h_S16x256))
    let l1 : Vec F S16x1 .f32 ← Prog.lift (.load arg6 (Rect.unit (s := S16x1) ![0, 0] S16x1.size inb_S16x1_S16x1_0_0).toLoadRect (View.loadsAt_vmem h_S16x1))
    let s2 : Vec F S16x256 .f32 ← Prog.lift (.load arg14 (Rect.unit (s := S16x256) ![0, 0] S16x256.size inb_S16x256_S16x256_0_0).toLoadRect (View.loadsAt_vmem h_S16x256))
    let l2 : Vec F S16x1 .f32 ← Prog.lift (.load arg7 (Rect.unit (s := S16x1) ![0, 0] S16x1.size inb_S16x1_S16x1_0_0).toLoadRect (View.loadsAt_vmem h_S16x1))
    let w1 : Vec F S1024x512 .f32 ← Prog.lift (.load arg8 (Rect.unit (s := S1024x512) ![0, 0] S1024x512.size inb_S1024x512_S1024x512_0_0).toLoadRect (View.loadsAt_vmem h_S1024x512))
    let b1 : Vec F S1x512 .f32 ← Prog.lift (.load arg9 (Rect.unit (s := S1x512) ![0, 0] S1x512.size inb_S1x512_S1x512_0_0).toLoadRect (View.loadsAt_vmem h_S1x512))
    let w2 : Vec F S512x128 .f32 ← Prog.lift (.load arg10 (Rect.unit (s := S512x128) ![0, 0] S512x128.size inb_S512x128_S512x128_0_0).toLoadRect (View.loadsAt_vmem h_S512x128))
    let b2 : Vec F S1x128 .f32 ← Prog.lift (.load arg11 (Rect.unit (s := S1x128) ![0, 0] S1x128.size inb_S1x128_S1x128_0_0).toLoadRect (View.loadsAt_vmem h_S1x128))
    let _o : Vec F S16x128 .f32 ← Prog.lift (.load arg12 (Rect.unit (s := S16x128) ![0, 0] S16x128.size inb_S16x128_S16x128_0_0).toLoadRect (View.loadsAt_vmem h_S16x128))
    Prog.lift (.store arg12 (Rect.unit (s := S16x128) ![0, 0] S16x128.size inb_S16x128_S16x128_0_0) (k0_pay8 s1 l1 s2 l2 w1 b1 w2 b2) Finset.univ (View.stores_vmem_bits_univ h_S16x128 rfl) (.inl rfl))
    pure ⟨⟩
  else do
    pure ⟨⟩
  pure ⟨⟩

set_option maxRecDepth 65536 in
/-- The kernel body is the first input's share, then the second's, then the last part. -/
theorem body_eq (i : grid0.Coords) (arg2 : Memref sig .tc .smem S16 .i32) (harg2 : arg2.IsWhole)
    (arg3 : Memref sig .tc .smem S16 .i32) (harg3 : arg3.IsWhole) (arg4 : Memref sig .tc .vmem S1x512x256 .f32)
    (harg4 : arg4.IsWhole) (arg5 : Memref sig .tc .vmem S1x512x256 .f32) (harg5 : arg5.IsWhole)
    (arg6 : Memref sig .tc .vmem S16x1 .f32) (harg6 : arg6.IsWhole) (arg7 : Memref sig .tc .vmem S16x1 .f32)
    (harg7 : arg7.IsWhole) (arg8 : Memref sig .tc .vmem S1024x512 .f32) (harg8 : arg8.IsWhole)
    (arg9 : Memref sig .tc .vmem S1x512 .f32) (harg9 : arg9.IsWhole) (arg10 : Memref sig .tc .vmem S512x128 .f32)
    (harg10 : arg10.IsWhole) (arg11 : Memref sig .tc .vmem S1x128 .f32) (harg11 : arg11.IsWhole)
    (arg12 : Memref sig .tc .vmem S16x128 .f32) (harg12 : arg12.IsWhole) (arg13 : Memref sig .tc .vmem S16x256 .f32)
    (harg13 : arg13.IsWhole) (arg14 : Memref sig .tc .vmem S16x256 .f32) (harg14 : arg14.IsWhole) :
    cc0__fused_kernel (F := F) i arg2 harg2 arg3 harg3 arg4 harg4 arg5 harg5 arg6 harg6 arg7 harg7 arg8 harg8 arg9 harg9
        arg10 harg10 arg11 harg11 arg12 harg12 arg13 harg13 arg14 harg14
      = accumThen i arg2 arg4 arg13 (accumThen i arg3 arg5 arg14
          (lastPart i arg6 arg7 arg8 arg9 arg10 arg11 arg12 arg13 arg14)) := rfl

/-- The zero offsets of a rank-2 access. -/
theorem zero2 : (![0, 0] : Fin 2 → Nat) = fun _ => 0 := by funext a; fin_cases a <;> rfl

/-- A load of all of a whole buffer held at `X` reads `X`. -/
theorem readAt_all {s : Shape} (M : Memref sig .tc .vmem s .f32) (hM : M.IsWhole) (X : Vec F s .f32) (off : Fin s.rank → Nat)
    (h0 : off = fun _ => 0) (inb : ∀ a, off a + s.size a ≤ s.size a) :
    View.readAt (Elt F) M.view (Rect.unit (s := s) off s.size inb).toLoadRect (hM.unread X) = X :=
  (View.ld_unit_zero h0 _ _).trans (hM.read_unread X)

/-- A store over all of a buffer leaves what was stored. -/
theorem read_stored {s : Shape} (M : Memref sig .tc .vmem s .f32) (f : M.view.ty.Contents (Elt F)) (off : Fin s.rank → Nat)
    (h0 : off = fun _ => 0) (inb : ∀ a, off a + s.size a ≤ s.size a) (p : Vec F s .f32) :
    M.view.read (Elt F) (M.view.writes (Elt F) f [(⟨Rect.unit (s := s) off s.size inb, p⟩ : View.Piece (Elt F) s .f32)]) = p := by
  funext y
  exact View.read_writes_cons_unit_of_mem M.view f inb p [] y y h0 fun a => (Nat.zero_add _).symm

set_option maxHeartbeats 4000000 in
/-- Away from the last point the last part does nothing. -/
theorem wp_lastPart_skip (c : Dev nD) (i : grid0.Coords) (arg6 arg7 : Memref sig .tc .vmem S16x1 .f32)
    (arg8 : Memref sig .tc .vmem S1024x512 .f32) (arg9 : Memref sig .tc .vmem S1x512 .f32)
    (arg10 : Memref sig .tc .vmem S512x128 .f32) (arg11 : Memref sig .tc .vmem S1x128 .f32)
    (arg12 : Memref sig .tc .vmem S16x128 .f32) (arg13 arg14 : Memref sig .tc .vmem S16x256 .f32)
    (h7 : ¬ k0_cond7 i = 1#1) (E : Set ℕ) (K : PUnit → sProp 𝕄) :
    K ⟨⟩ ⊢ wp frame (wpE (defs₀ (F := F)) Variants.none c none) E
      (lastPart (F := F) i arg6 arg7 arg8 arg9 arg10 arg11 arg12 arg13 arg14) K := by
  unfold lastPart
  iintro Hk
  sl_exec (disch := first | sl_exact h7)
  sl_step
  iexact Hk

set_option maxHeartbeats 4000000 in
/-- At the last point the last part leaves the perceptron's result in the output block, whatever the block held, and
everything it reads as it was. -/
theorem wp_lastPart (c : Dev nD) (i : grid0.Coords) (arg6 : Memref sig .tc .vmem S16x1 .f32) (harg6 : arg6.IsWhole)
    (arg7 : Memref sig .tc .vmem S16x1 .f32) (harg7 : arg7.IsWhole)
    (arg8 : Memref sig .tc .vmem S1024x512 .f32) (harg8 : arg8.IsWhole)
    (arg9 : Memref sig .tc .vmem S1x512 .f32) (harg9 : arg9.IsWhole) (arg10 : Memref sig .tc .vmem S512x128 .f32)
    (harg10 : arg10.IsWhole) (arg11 : Memref sig .tc .vmem S1x128 .f32) (harg11 : arg11.IsWhole)
    (arg12 : Memref sig .tc .vmem S16x128 .f32) (harg12 : arg12.IsWhole) (arg13 : Memref sig .tc .vmem S16x256 .f32)
    (harg13 : arg13.IsWhole) (arg14 : Memref sig .tc .vmem S16x256 .f32) (harg14 : arg14.IsWhole)
    (h7 : k0_cond7 i = 1#1) (l1 l2 : Vec F S16x1 .f32) (w1 : Vec F S1024x512 .f32) (b1 : Vec F S1x512 .f32)
    (w2 : Vec F S512x128 .f32) (b2 : Vec F S1x128 .f32) (o : Vec F S16x128 .f32) (s1 s2 : Vec F S16x256 .f32)
    (E : Set ℕ) (K : PUnit → sProp 𝕄) :
    iprop(owns (c : Thread nD τ) arg6 fullShare l1 ∗ owns (c : Thread nD τ) arg7 fullShare l2
        ∗ owns (c : Thread nD τ) arg8 fullShare w1 ∗ owns (c : Thread nD τ) arg9 fullShare b1
        ∗ owns (c : Thread nD τ) arg10 fullShare w2 ∗ owns (c : Thread nD τ) arg11 fullShare b2
        ∗ owns (c : Thread nD τ) arg12 fullShare o ∗ owns (c : Thread nD τ) arg13 fullShare s1
        ∗ owns (c : Thread nD τ) arg14 fullShare s2
        ∗ (iprop(owns (c : Thread nD τ) arg6 fullShare l1 ∗ owns (c : Thread nD τ) arg7 fullShare l2
            ∗ owns (c : Thread nD τ) arg8 fullShare w1 ∗ owns (c : Thread nD τ) arg9 fullShare b1
            ∗ owns (c : Thread nD τ) arg10 fullShare w2 ∗ owns (c : Thread nD τ) arg11 fullShare b2
            ∗ owns (c : Thread nD τ) arg12 fullShare (k0_pay8 s1 l1 s2 l2 w1 b1 w2 b2)
            ∗ owns (c : Thread nD τ) arg13 fullShare s1 ∗ owns (c : Thread nD τ) arg14 fullShare s2) -∗ K ⟨⟩))
      ⊢ wp frame (wpE (defs₀ (F := F)) Variants.none c none) E
          (lastPart (F := F) i arg6 arg7 arg8 arg9 arg10 arg11 arg12 arg13 arg14) K := by
  unfold lastPart owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg6.eq_unread hf0
  obtain rfl := harg7.eq_unread hf1
  obtain rfl := harg8.eq_unread hf2
  obtain rfl := harg9.eq_unread hf3
  obtain rfl := harg10.eq_unread hf4
  obtain rfl := harg11.eq_unread hf5
  obtain rfl := harg12.eq_unread hf6
  obtain rfl := harg13.eq_unread hf7
  obtain rfl := harg14.eq_unread hf8
  sl_exec (disch := first | sl_exact h7)
  sl_step
  iapply Hk
  isplitl [H0]
  · iexists _; isplitr; · ipureintro; exact harg6.read_unread _
    iexact H0
  isplitl [H1]
  · iexists _; isplitr; · ipureintro; exact harg7.read_unread _
    iexact H1
  isplitl [H2]
  · iexists _; isplitr; · ipureintro; exact harg8.read_unread _
    iexact H2
  isplitl [H3]
  · iexists _; isplitr; · ipureintro; exact harg9.read_unread _
    iexact H3
  isplitl [H4]
  · iexists _; isplitr; · ipureintro; exact harg10.read_unread _
    iexact H4
  isplitl [H5]
  · iexists _; isplitr; · ipureintro; exact harg11.read_unread _
    iexact H5
  isplitl [H6]
  · iexists _; isplitr
    swap; · iexact H6
    ipureintro
    refine (read_stored arg12 _ _ zero2 _ _).trans ?_
    rw [readAt_all arg13 harg13 s1 _ zero2, readAt_all arg6 harg6 l1 _ zero2, readAt_all arg14 harg14 s2 _ zero2,
      readAt_all arg7 harg7 l2 _ zero2, readAt_all arg8 harg8 w1 _ zero2, readAt_all arg9 harg9 b1 _ zero2,
      readAt_all arg10 harg10 w2 _ zero2, readAt_all arg11 harg11 b2 _ zero2]
  isplitl [H7]
  · iexists _; isplitr; · ipureintro; exact harg13.read_unread _
    iexact H7
  iexists _; isplitr; · ipureintro; exact harg14.read_unread _
  iexact H8

end Cert.KernelIdeal.Pool

end
-- ==== Proof.Data.lean ====
/- The proof data of the launch: what each window's buffer holds when the body leaves a point, and what the body carries
   from point to point in its two accumulators. -/
module

public import proofs.«01_k».proof.Proof.Fold
public import proofs.«01_k».proof.Proof.Last

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first input's lengths, by point. -/
abbrev wd0 (c : Dev nD) (t : Fin grid0.N) : Elt F .i32 := word c (grid0.coords t) tab0 (tbl m 0)
/-- The second input's lengths, by point. -/
abbrev wd1 (c : Dev nD) (t : Fin grid0.N) : Elt F .i32 := word c (grid0.coords t) tab1 (tbl m 1)
/-- The first input's blocks, by point. -/
abbrev bk0 (hO : Ok m) (c : Dev nD) (t : Fin grid0.N) : Vec F S1x512x256 .f32 := blk m hO c 0 t
/-- The second input's blocks, by point. -/
abbrev bk1 (hO : Ok m) (c : Dev nD) (t : Fin grid0.N) : Vec F S1x512x256 .f32 := blk m hO c 1 t

/-- Every batch row's first block is reached, in both inputs. -/
def First : Prop := ∀ (c : Dev nD) (t : Fin grid0.N), (grid0.coords t 1).val = 0 →
  Reached (grid0.coords t) (wd0 m c t) ∧ Reached (grid0.coords t) (wd1 m c t)

/-- Some accumulator contents to start from. -/
def start : Vec F S16x256 .f32 := fun _ => Scalar.ofBits .f32 0x00000000#32

/-- The first input's finished accumulator. -/
def sum0 (hO : Ok m) (c : Dev nD) : Vec F S16x256 .f32 := fold (wd0 m c) (bk0 m hO c) start 128
/-- The second input's finished accumulator. -/
def sum1 (hO : Ok m) (c : Dev nD) : Vec F S16x256 .f32 := fold (wd1 m c) (bk1 m hO c) start 128

/-- The perceptron's result over the finished accumulators, with the operands of point `t`. -/
def result (hO : Ok m) (c : Dev nD) (t : Fin (cfgM m hO).N) : Vec F S16x128 .f32 :=
  k0_pay8 (sum0 m hO c) (blk m hO c 2 t) (sum1 m hO c) (blk m hO c 3 t) (blk m hO c 4 t) (blk m hO c 5 t)
    (blk m hO c 6 t) (blk m hO c 7 t)

/-- What the body carries before point `n`: each accumulator at its fold over the points before, from some first contents;
the random-number register; the tables' halves. -/
def carried (hO : Ok m) (c : Dev nD) (n : ℕ) : sProp 𝕄 :=
  iprop((∃ d, owns (c : Thread nD τ) acc0 fullShare (fold (wd0 m c) (bk0 m hO c) d n))
    ∗ (∃ d, owns (c : Thread nD τ) acc1 fullShare (fold (wd1 m c) (bk1 m hO c) d n))
    ∗ (∃ r, prngReg c r) ∗ tabPt c tab0 (tbl m 0) ∗ tabPt c tab1 (tbl m 1))

/-- The proof data: an input's buffer keeps its block, the output's holds the result after the last point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => blk m hO c 5 t
    | ⟨6, _⟩ => blk m hO c 6 t
    | ⟨7, _⟩ => blk m hO c 7 t
    | ⟨8, _⟩ => result m hO c t
  Φ t := carried m hO c t.val
  q _ := fullShare
  owed _ := 0

/-- The proof data's arrays are the buffers at the region's entry. -/
theorem A_eq (hO : Ok m) (c : Dev nD) (w : Fin (cfgM m hO).W) : (dats m hO 0 c).A w = V m c (Pipeline.arrRef spec0 w) := by
  dsimp only [dats]

/-- An input whose buffer the body leaves at its block holds that block at every point, fetched there or not. The
hypotheses are the window's shape: an input, never idle, moved whole. -/
theorem before_in (hO : Ok m) (c : Dev nD) (w : Fin (cfgM m hO).W) (hw : ((cfgM m hO).win w).isOut = false)
    (hlive : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (X : (t : Fin (cfgM m hO).N) → ((cfgM m hO).win w).block.Idx → Elt F ((cfgM m hO).win w).elt)
    (hkeep : ∀ t, ((cfgM m hO).win w).cut ((cfgM m hO).grid.coords t) ((dats m hO 0 c).after w t) = blk m hO c w t)
    (t : Fin (cfgM m hO).N) (d) (hX : ((cfgM m hO).win w).fill ((cfgM m hO).grid.coords t) d (blk m hO c w t) = X t) :
    (dats m hO 0 c).before w t d = X t :=
  ((dats m hO 0 c).before_in_eq_fetched w hw hlive hclip
    (fun t => by rw [hkeep]; unfold Dat.blockOf blk; rw [A_eq]) t d).trans
    (by unfold Dat.fetched Dat.blockOf; rw [A_eq]; exact hX)

end Cert.KernelIdeal.Pool

end
-- ==== Proof.Body.lean ====
/- The body obligation: at every point, from the windows' buffers at what the pipeline put there and what the body
   carries, the body runs and leaves the buffers and what it carries as the proof data say. -/
module

public import proofs.«01_k».proof.Proof.Data

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at point `t`, on the staging buffers the pipeline calls it with. -/
abbrev bodyAt (a : (pcfg0 (F := F)).Adm) (t : Fin (cfg0 a).N) : Prog (TpuEff nD τ sig (Elt F) Λ₀ .tc) PUnit :=
  cc0__fused_kernel (grid0.coords t) (Memref.whole main_arg1) (Memref.isWhole_whole _) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))
    (spec0_8.stage ((cfg0 a).slots t 8)) (hstage0_8 (((cfg0 a).slots t 8).cast nbuf0_8))
    (Memref.whole cc0_scratch0) (Memref.isWhole_whole _) (Memref.whole cc0_scratch1) (Memref.isWhole_whole _)

/-- The body table's row at point `t`'s buffers is that body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- What the body is called with at point `t`, window by window. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d))
    ∗ (∃ d, owns (c : Thread nD τ) (spec0_8.stage ((cfgM m hO).slots t 8)) fullShare ((dats m hO 0 c).before 8 t d)))

/-- What the body leaves in the inputs' buffers at point `t`: their blocks, as it found them. -/
def inputsKept (hO : Ok m) (c : Dev nD) (t : Fin (cfgM m hO).N) (R : sProp 𝕄) : sProp 𝕄 :=
  iprop(owns (c : Thread nD τ) (spec0_0.stage ((cfgM m hO).slots t 0)) fullShare (blk m hO c 0 t)
    ∗ owns (c : Thread nD τ) (spec0_1.stage ((cfgM m hO).slots t 1)) fullShare (blk m hO c 1 t)
    ∗ owns (c : Thread nD τ) (spec0_2.stage ((cfgM m hO).slots t 2)) fullShare (blk m hO c 2 t)
    ∗ owns (c : Thread nD τ) (spec0_3.stage ((cfgM m hO).slots t 3)) fullShare (blk m hO c 3 t)
    ∗ owns (c : Thread nD τ) (spec0_4.stage ((cfgM m hO).slots t 4)) fullShare (blk m hO c 4 t)
    ∗ owns (c : Thread nD τ) (spec0_5.stage ((cfgM m hO).slots t 5)) fullShare (blk m hO c 5 t)
    ∗ owns (c : Thread nD τ) (spec0_6.stage ((cfgM m hO).slots t 6)) fullShare (blk m hO c 6 t)
    ∗ owns (c : Thread nD τ) (spec0_7.stage ((cfgM m hO).slots t 7)) fullShare (blk m hO c 7 t)
    ∗ R)

/-- What the body returns at point `t`. -/
def bodyPost (hO : Ok m) (c : Dev nD) (t : Fin (cfgM m hO).N) : sProp 𝕄 :=
  iprop((dats m hO 0 c).Φ t.succ ∗ (dats m hO 0 c).owesAt () t.succ
    ∗ inputsKept m hO c t ((dats m hO 0 c).leavesExact 8 t))

/-- Where a point is not the last, the output window is idle there and not written back. -/
theorem out_idle (hO : Ok m) (t : Fin (cfgM m hO).N) (h : t.val ≠ 127) :
    (cfgM m hO).idle 8 (grid0.coords t) = true ∧ ((cfgM m hO).win 8).flush t = false := by
  have h7 : ¬ k0_cond7 (grid0.coords t) = 1#1 := fun h7 => h ((cond_last t).1 h7)
  refine ⟨?_, ?_⟩
  · show (!(k0_cond7 (grid0.coords t) == 1#1)) = true
    rw [Bool.not_eq_true', beq_eq_false_iff_ne]
    exact h7
  · have hN : t.val < 128 := Nat.lt_of_lt_of_eq t.isLt N_0
    have hf := Pipeline.Window.flushOf_const cc0_transform_8 (fun _ _ => rfl) (n := 128) (by decide) rfl t
    rw [← Bool.not_eq_true]
    intro hc
    have := hf.1 hc
    omega

/-- At the last point the output window is not idle. -/
theorem out_live (hO : Ok m) (t : Fin (cfgM m hO).N) (h : t.val = 127) : (cfgM m hO).idle 8 (grid0.coords t) = false := by
  have h7 : k0_cond7 (grid0.coords t) = 1#1 := (cond_last t).2 h
  show (!(k0_cond7 (grid0.coords t) == 1#1)) = false
  rw [h7]; rfl

/-- A finished accumulator is the same from any first contents. -/
theorem fold_done (wd : Fin grid0.N → Elt F .i32) (bk : Fin grid0.N → Vec F S1x512x256 .f32)
    (hfirst : ∀ t : Fin grid0.N, (grid0.coords t 1).val = 0 → Reached (grid0.coords t) (wd t)) (d d' : Vec F S16x256 .f32) :
    fold wd bk d 128 = fold wd bk d' 128 := by
  funext y
  have hy : (y 0).val < 16 := (y 0).isLt
  exact fold_indep wd bk hfirst d d' 128 (le_of_eq N_0.symm) y (by omega)

/-- That body as its three parts. -/
theorem bodyAt_eq (hO : Ok m) (t : Fin (cfgM m hO).N) :
    bodyAt (adm m hO) t
      = accumThen (grid0.coords t) tab0 (spec0_0.stage ((cfg0 (adm m hO)).slots t 0)) acc0
          (accumThen (grid0.coords t) tab1 (spec0_1.stage ((cfg0 (adm m hO)).slots t 1)) acc1
            (lastPart (grid0.coords t) (spec0_2.stage ((cfg0 (adm m hO)).slots t 2))
              (spec0_3.stage ((cfg0 (adm m hO)).slots t 3)) (spec0_4.stage ((cfg0 (adm m hO)).slots t 4))
              (spec0_5.stage ((cfg0 (adm m hO)).slots t 5)) (spec0_6.stage ((cfg0 (adm m hO)).slots t 6))
              (spec0_7.stage ((cfg0 (adm m hO)).slots t 7)) (spec0_8.stage ((cfg0 (adm m hO)).slots t 8)) acc0 acc1)) :=
  body_eq ..

set_option maxHeartbeats 16000000 in
/-- The body at any point, where every row's first block is reached. -/
theorem sound_body (hO : Ok m) (hF : First m) (c : Dev nD) (t : Fin (cfgM m hO).N) :
    bodyPre m hO c t ⊢ wp frame (wpE (defs₀ (F := F)) Variants.none c none) Set.univ (bodyAt (adm m hO) t)
      (fun _ => bodyPost m hO c t) := by
  rw [bodyAt_eq]
  unfold bodyPre bodyPost inputsKept
  rw [show (dats m hO 0 c).owesAt () t.succ = (dats m hO 0 c).owesAt () t.castSucc from rfl,
    show (dats m hO 0 c).Φ t.castSucc = carried m hO c t.val from rfl,
    show (dats m hO 0 c).Φ t.succ = carried m hO c (t.val + 1) from rfl]
  have b0 := fun d => before_in m hO c 0 rfl (fun _ => rfl) (fun _ _ _ => rfl) (fun t => blk m hO c 0 t) (fun _ => rfl) t d rfl
  have b1 := fun d => before_in m hO c 1 rfl (fun _ => rfl) (fun _ _ _ => rfl) (fun t => blk m hO c 1 t) (fun _ => rfl) t d rfl
  have b2 := fun d => before_in m hO c 2 rfl (fun _ => rfl) (fun _ _ _ => rfl) (fun t => blk m hO c 2 t) (fun _ => rfl) t d rfl
  have b3 := fun d => before_in m hO c 3 rfl (fun _ => rfl) (fun _ _ _ => rfl) (fun t => blk m hO c 3 t) (fun _ => rfl) t d rfl
  have b4 := fun d => before_in m hO c 4 rfl (fun _ => rfl) (fun _ _ _ => rfl) (fun t => blk m hO c 4 t) (fun _ => rfl) t d rfl
  have b5 := fun d => before_in m hO c 5 rfl (fun _ => rfl) (fun _ _ _ => rfl) (fun t => blk m hO c 5 t) (fun _ => rfl) t d rfl
  have b6 := fun d => before_in m hO c 6 rfl (fun _ => rfl) (fun _ _ _ => rfl) (fun t => blk m hO c 6 t) (fun _ => rfl) t d rfl
  have b7 := fun d => before_in m hO c 7 rfl (fun _ => rfl) (fun _ _ _ => rfl) (fun t => blk m hO c 7 t) (fun _ => rfl) t d rfl
  simp only [b0, b1, b2, b3, b4, b5, b6, b7]
  unfold carried
  iintro ⟨⟨⟨%e0, HS0⟩, ⟨%e1, HS1⟩, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_accumThen c (grid0.coords t) tab0 _ (hstage0_0 (((cfgM m hO).slots t 0).cast nbuf0_0)) acc0 (Memref.isWhole_whole _) _ (bk0 m hO c t) (tbl m 0) _ Set.univ _)
  isplitl [H0]; · iexact H0
  isplitl [HS0]; · iexact HS0
  isplitl [HT0]; · iexact HT0
  iintro ⟨H0, HS0, HT0⟩
  iapply (wp_accumThen c (grid0.coords t) tab1 _ (hstage0_1 (((cfgM m hO).slots t 1).cast nbuf0_1)) acc1 (Memref.isWhole_whole _) _ (bk1 m hO c t) (tbl m 1) _ Set.univ _)
  isplitl [H1]; · iexact H1
  isplitl [HS1]; · iexact HS1
  isplitl [HT1]; · iexact HT1
  iintro ⟨H1, HS1, HT1⟩
  have f0 : step (grid0.coords t) (word c (grid0.coords t) tab0 (tbl m 0)) (bk0 m hO c t) (fold (wd0 m c) (bk0 m hO c) e0 t.val)
      = fold (wd0 m c) (bk0 m hO c) e0 (t.val + 1) := (fold_succ (wd0 m c) (bk0 m hO c) e0 t).symm
  have f1 : step (grid0.coords t) (word c (grid0.coords t) tab1 (tbl m 1)) (bk1 m hO c t) (fold (wd1 m c) (bk1 m hO c) e1 t.val)
      = fold (wd1 m c) (bk1 m hO c) e1 (t.val + 1) := (fold_succ (wd1 m c) (bk1 m hO c) e1 t).symm
  rw [f0, f1]
  by_cases hlast : t.val = 127
  · have g0 : fold (wd0 m c) (bk0 m hO c) e0 (t.val + 1) = sum0 m hO c := by
      rw [hlast]; exact fold_done _ _ (fun t h => (hF c t h).1) e0 start
    have g1 : fold (wd1 m c) (bk1 m hO c) e1 (t.val + 1) = sum1 m hO c := by
      rw [hlast]; exact fold_done _ _ (fun t h => (hF c t h).2) e1 start
    have hout : (dats m hO 0 c).leavesExact 8 t
        = owns (c : Thread nD τ) (spec0_8.stage ((cfgM m hO).slots t 8)) fullShare (result m hO c t) := by
      unfold Dat.leavesExact
      rw [out_live m hO t hlast]
      rfl
    rw [hout]
    iapply (wp_lastPart c (grid0.coords t) _ (hstage0_2 (((cfgM m hO).slots t 2).cast nbuf0_2))
      _ (hstage0_3 (((cfgM m hO).slots t 3).cast nbuf0_3)) _ (hstage0_4 (((cfgM m hO).slots t 4).cast nbuf0_4))
      _ (hstage0_5 (((cfgM m hO).slots t 5).cast nbuf0_5)) _ (hstage0_6 (((cfgM m hO).slots t 6).cast nbuf0_6))
      _ (hstage0_7 (((cfgM m hO).slots t 7).cast nbuf0_7)) _ (hstage0_8 (((cfgM m hO).slots t 8).cast nbuf0_8))
      acc0 (Memref.isWhole_whole _) acc1 (Memref.isWhole_whole _) ((cond_last t).2 hlast)
      (blk m hO c 2 t) (blk m hO c 3 t) (blk m hO c 4 t) (blk m hO c 5 t) (blk m hO c 6 t) (blk m hO c 7 t) _
      (sum0 m hO c) (sum1 m hO c) Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · rw [← g0]; iexact HS0
    isplitl [HS1]; · rw [← g1]; iexact HS1
    iintro ⟨H2, H3, H4, H5, H6, H7, H8, HS0, HS1⟩
    isplitl [HS0 HS1 Hg HT0 HT1]
    · isplitl [HS0]; · iexists e0; rw [g0]; iexact HS0
      isplitl [HS1]; · iexists e1; rw [g1]; iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iapply (wp_lastPart_skip c (grid0.coords t) _ _ _ _ _ _ _ _ _ (fun h7 => hlast ((cond_last t).1 h7)) Set.univ _)
    rw [Dat.leavesExact_idle (dats m hO 0 c) 8 t (out_idle m hO t hlast).1 (out_idle m hO t hlast).2]
    isplitl [HS0 HS1 Hg HT0 HT1]
    · isplitl [HS0]; · iexists e0; iexact HS0
      isplitl [HS1]; · iexists e1; iexact HS1
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body obligation of the launch. -/
theorem body_obligation (hO : Ok m) (hF : First m) (c : Dev nD) :
    BodyObligation (dats m hO 0 c) defs₀ Variants.none () Set.univ := fun t => by
  rw [bigSep_W0, bigSep_W0, defs₀_row m hO]
  exact triple_restated (sound_body m hO hF c t) rfl .rfl fun _ => .rfl

end Cert.KernelIdeal.Pool

end
-- ==== Proof.Launched.lean ====
/- The launch, run: from any memory whose tables are admissible and reach every row's first block, every execution
   ends, the arguments are as they were, and the result array holds the last point's result. -/
module

public import proofs.«01_k».proof.Proof.Body
public import Idealize.ShloMosaic.Lib.Quiescent

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands over before the first point is what the body carries there. -/
theorem hin (hO : Ok m) (c : Dev nD) : iprop(Pipeline.ΦA spec0 c ∗ Pipeline.ΦT pre0 (tbl m) c) ⊢ (dats m hO 0 c).Φ 0 := by
  rw [show (dats m hO 0 c).Φ 0 = carried m hO c 0 from rfl, PhiA_eq, PhiT_eq]
  unfold carried
  simp only [fold]
  iintro ⟨⟨⟨HS0, HS1⟩, Hg⟩, HT0, HT1⟩
  isplitl [HS0]; · iexact HS0
  isplitl [HS1]; · iexact HS1
  isplitl [Hg]; · iexact Hg
  isplitl [HT0]; · iexact HT0
  iexact HT1

/-- What the body carries after the last point gives the launch its scratch buffers and register back. -/
theorem hout (hO : Ok m) (c : Dev nD) : (dats m hO 0 c).Φ (Fin.last (cfgM m hO).N) ⊢ Pipeline.ΦA spec0 c := by
  rw [show (dats m hO 0 c).Φ (Fin.last (cfgM m hO).N) = carried m hO c (Fin.last (cfgM m hO).N).val from rfl, PhiA_eq]
  unfold carried
  iintro ⟨⟨%e0, HS0⟩, ⟨%e1, HS1⟩, Hg, -, -⟩
  isplitl [HS0 HS1]
  · isplitl [HS0]
    · iexists _; iexact HS0
    iexists _; iexact HS1
  iexact Hg

set_option backward.isDefEq.respectTransparency.types false in
/-- The launch: every array of the pipeline ends as the proof data say, every other buffer as at the region's entry, and
every semaphore counter at zero. -/
theorem run_launch (hO : Ok m) (hF : First m) :
    θ_run defs (onTc (τ := τ) (main (F := F))) (s₀ m ρ)
      (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hF c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The last point of the grid. -/
def lastPt (hO : Ok m) : Fin (cfgM m hO).N := ⟨127, Nat.lt_of_lt_of_eq (by decide) N_0.symm⟩

/-- A point that writes the output block back is the last one. -/
theorem flush_last (hO : Ok m) (t : Fin (cfgM m hO).N) : ((cfgM m hO).win 8).flush t = true ↔ t = lastPt m hO := by
  have hN : t.val < 128 := Nat.lt_of_lt_of_eq t.isLt N_0
  have hf := Pipeline.Window.flushOf_const cc0_transform_8 (fun _ _ => rfl) (n := 128) (by decide) rfl t
  refine ⟨fun h => Fin.ext ?_, ?_⟩
  · have := hf.1 h
    show t.val = 127
    omega
  · rintro rfl
    exact hf.2 rfl

/-- The output block starts at the array's origin. -/
theorem out_origin (hO : Ok m) (t : Fin (cfgM m hO).N) :
    (fun a => ((cfgM m hO).win 8).index t a * main_v6.ty.shape.size a) = fun _ => 0 :=
  funext fun a => by fin_cases a <;> rfl

/-- The write-back writes the result over the whole array. -/
theorem flushed_result (hO : Ok m) (c : Dev nD) (t : Fin (cfgM m hO).N) (hf : ((cfgM m hO).win 8).flush t = true) :
    (dats m hO 0 c).flushed 8 t = (((cfgM m hO).win 8).blk t).view.read (Elt F) (result m hO c (lastPt m hO)) := by
  rw [flush_last] at hf
  subst hf
  show ((cfgM m hO).win 8).cut (grid0.coords (lastPt m hO)) (result m hO c (lastPt m hO)) = _
  exact (Memref.read_access_unit_zero (Elt F) main_v6 (out_origin m hO _)
    (fun a => by rw [congrFun (out_origin m hO _) a]; simp) (result m hO c (lastPt m hO))).symm

/-- So the output array ends at the result. -/
theorem final_out (hO : Ok m) (c : Dev nD) : (dats m hO 0 c).arrAt 8 (cfgM m hO).N = result m hO c (lastPt m hO) :=
  (dats m hO 0 c).arrAt_eq_of_cover 8 (result m hO c (lastPt m hO)) (flushed_result m hO c) fun i =>
    ⟨lastPt m hO, (flush_last m hO _).2 rfl, by
      show i ∈ ((View.whole main_v6).slice (((cfgM m hO).win 8).rect (lastPt m hO))).set
      refine (Finset.ext_iff.mp (View.set_slice_whole main_v6 _) i).mpr (Rect.mem_set_unit.mpr ?_)
      intro a
      have hi : ∀ i : S16x128.Idx, (0 ≤ (i 0).val ∧ (i 0).val < 0 * 16 + 16) ∧ 0 ≤ (i 1).val ∧ (i 1).val < 0 * 128 + 128 :=
        fun i => ⟨⟨Nat.zero_le _, (i 0).isLt.trans_eq rfl⟩, Nat.zero_le _, (i 1).isLt.trans_eq rfl⟩
      match a with
      | ⟨0, _⟩ => exact (hi i).1
      | ⟨1, _⟩ => exact (hi i).2⟩

/-- The run at the arguments, the result and the counters: the arguments end unchanged, the result array at the
result, every counter at zero. -/
theorem run_value (hO : Ok m) (hF : First m) :
    θ_run defs (onTc (τ := τ) (main (F := F))) ⟨m, fun _ => 0, ρ⟩ (fun r => (∀ c : Dev nD,
      r.2.mem ((c.tc : Thread nD τ).loc main_v6) = result m hO c (lastPt m hO)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (run_launch m ρ hO hF)
  obtain ⟨harr, hrest⟩ := h.1 c
  have arr : ∀ w : Fin (cfgM m hO).W, ((cfgM m hO).win w).isOut = false →
      (dats m hO 0 c).arrAt w (cfgM m hO).N = V m c (Pipeline.arrRef spec0 w) :=
    fun w hw => ((dats m hO 0 c).arrAt_in w hw _).trans (A_eq m hO c w)
  have kept := fun b hb => V_unwritten m c b hb
  exact ⟨(harr 8).trans (final_out m hO c),
    ((harr 0).trans (arr 0 rfl)).trans (kept main_arg0 (by decide)),
    (hrest main_arg1 (by decide : main_arg1 ∈ Pipeline.restRefs sig spec0)).trans (kept main_arg1 (by decide)),
    ((harr 1).trans (arr 1 rfl)).trans (kept main_arg2 (by decide)),
    (hrest main_arg3 (by decide : main_arg3 ∈ Pipeline.restRefs sig spec0)).trans (kept main_arg3 (by decide)),
    ((harr 4).trans (arr 4 rfl)).trans (kept main_arg4 (by decide)),
    (hrest main_arg5 (by decide : main_arg5 ∈ Pipeline.restRefs sig spec0)).trans (kept main_arg5 (by decide)),
    ((harr 6).trans (arr 6 rfl)).trans (kept main_arg6 (by decide)),
    (hrest main_arg7 (by decide : main_arg7 ∈ Pipeline.restRefs sig spec0)).trans (kept main_arg7 (by decide))⟩

end Cert.KernelIdeal.Pool

end
-- ==== Proof.Lengths.lean ====
/- The length tables: what lengths between 1 and 4096 give — the index maps name blocks inside their arrays, and every
   batch row's first block is reached. -/
module

public import proofs.«01_k».proof.Proof.Data
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Word arithmetic -/

/-- The last block of positions a length reaches, as the index maps compute it: the length plus 511, floor-divided by 512,
minus one. -/
def lastBlock (w : BitVec 32) : BitVec 32 :=
  let n := Scalar.subi (Scalar.addi w 512#32) 1#32
  let q := Scalar.divsi n 512#32
  let sn := Scalar.subi (Scalar.extui (Scalar.cmpi .sgt n 0#32)) (Scalar.extui (Scalar.cmpi .slt n 0#32))
  let sd := Scalar.subi (Scalar.extui (Scalar.cmpi .sgt 512#32 0#32)) (Scalar.extui (Scalar.cmpi .slt 512#32 0#32))
  let c := Scalar.andi (Scalar.cmpi .ne sn sd) (Scalar.cmpi .ne (Scalar.remsi n 512#32) 0#32)
  Scalar.subi (Scalar.select c (Scalar.subi q 1#32) q) 1#32

/-- At lengths 1 to 4096 it is the length less one, divided by 512. -/
theorem lastBlock_ofNat : ∀ n : Fin 4096, lastBlock (BitVec.ofNat 32 (n.val + 1)) = BitVec.ofNat 32 (n.val / 512) := by
  decide +kernel

/-- The lesser of two block numbers, as words. -/
theorem minsi_ofNat : ∀ a b : Fin 8, (Scalar.minsi (BitVec.ofNat 32 a.val) (BitVec.ofNat 32 b.val)).toNat = min a.val b.val := by
  decide +kernel

/-- The block the index map names at block coordinate `j`: `j`, held to the last block the length reaches. -/
theorem minsi_lastBlock (j : ℕ) (hj : j < 8) (w : BitVec 32) (h1 : 1 ≤ w.toNat) (h2 : w.toNat ≤ 4096) :
    (Scalar.minsi (BitVec.ofNat 32 j) (lastBlock w)).toNat = min j ((w.toNat - 1) / 512) := by
  have hw : w = BitVec.ofNat 32 ((⟨w.toNat - 1, by omega⟩ : Fin 4096).val + 1) := by
    apply BitVec.eq_of_toNat_eq
    rw [BitVec.toNat_ofNat]
    show w.toNat = (w.toNat - 1 + 1) % 2 ^ 32
    omega
  conv_lhs => rw [hw, lastBlock_ofNat]
  exact minsi_ofNat ⟨j, hj⟩ ⟨(w.toNat - 1) / 512, by omega⟩

/-- A block is reached when its first position is below the length. -/
theorem reached_iff (i : grid0.Coords) (w : BitVec 32) (h2 : w.toNat ≤ 4096) :
    Reached (F := F) i w ↔ 512 * (i 1).val < w.toNat := by
  have hj : (i 1).val < 8 := (i 1).isLt
  have hm : Scalar.muli (BitVec.ofNat 32 (i 1).val) 512#32 = BitVec.ofNat 32 (512 * (i 1).val) := by
    apply BitVec.eq_of_toNat_eq
    show (BitVec.ofNat 32 (i 1).val * 512#32).toNat = _
    rw [BitVec.toNat_mul, BitVec.toNat_ofNat, BitVec.toNat_ofNat, BitVec.toNat_ofNat]
    show (i 1).val % 2 ^ 32 * 512 % 2 ^ 32 = 512 * (i 1).val % 2 ^ 32
    omega
  have hx : ∀ b : BitVec 1, Scalar.cmpi .ne (Scalar.extui b) 0#32 = 1#1 ↔ b = 1#1 := by decide
  show Scalar.cmpi .ne (Scalar.extui (Scalar.cmpi .slt (Scalar.muli (BitVec.ofNat 32 (i 1).val) 512#32) w)) 0#32 = 1#1 ↔ _
  rw [hx, hm]
  have hw : w = BitVec.ofNat 32 w.toNat := by rw [BitVec.ofNat_toNat, BitVec.setWidth_eq]
  conv_lhs => rw [hw]
  exact WordCmp.cmpi_slt_ofNat_eq_one_iff (w := 32) (by norm_num; omega) (by norm_num; omega)

/-! ## The tables -/

/-- Every length of both tables is at least 1 and at most 4096. -/
def InRange : Prop := ∀ (c : Dev nD) (r : S16.Idx),
  (1 ≤ (m ((c : Thread nD τ).loc main_arg1) r : BitVec 32).toNat ∧ (m ((c : Thread nD τ).loc main_arg1) r : BitVec 32).toNat ≤ 4096)
  ∧ 1 ≤ (m ((c : Thread nD τ).loc main_arg3) r : BitVec 32).toNat ∧ (m ((c : Thread nD τ).loc main_arg3) r : BitVec 32).toNat ≤ 4096

/-- The batch row of a point, as an index of a table. -/
def rowIdx (i : grid0.Coords) : S16.Idx := fun a => ⟨(i 0).val, by fin_cases a; exact (i 0).isLt⟩

/-- The element of a table a point's load names is its batch row's. -/
theorem tabIdx (i : grid0.Coords) :
    (Rect.unit (s := S16) (k0_off1 i) S1.size (k0_off1_inb i)).toLoadRect.idx (Shape.Idx.first (numel1_S1.symm ▸ Nat.one_pos)) = rowIdx i := by
  funext a
  apply Fin.ext
  fin_cases a
  show (k0_off1 i) 0 + 1 * 0 = (i 0).val
  have h : (i 0).val < 16 := (i 0).isLt
  show (BitVec.ofNat 32 (i 0).val).toNat + 1 * 0 = (i 0).val
  rw [BitVec.toNat_ofNat]
  omega

/-- The first input's length at a point is its batch row's. -/
theorem wd0_eq (c : Dev nD) (t : Fin grid0.N) : wd0 m c t = m ((c : Thread nD τ).loc main_arg1) (rowIdx (grid0.coords t)) := by
  obtain rfl : c = 0 := Subsingleton.elim _ _
  rw [← V_unwritten m 0 main_arg1 (by decide), ← tabIdx]
  rfl

/-- The second input's length at a point is its batch row's. -/
theorem wd1_eq (c : Dev nD) (t : Fin grid0.N) : wd1 m c t = m ((c : Thread nD τ).loc main_arg3) (rowIdx (grid0.coords t)) := by
  obtain rfl : c = 0 := Subsingleton.elim _ _
  rw [← V_unwritten m 0 main_arg3 (by decide), ← tabIdx]
  rfl

/-- The first input's index map: the batch row, the block held to the last one reached. -/
theorem ix_0 (i : grid0.Coords) (h : InRange m) :
    cc0_transform_0 k0_off1_inb numel1_S1 (tbl m) i
      = ![(i 0).val, min (i 1).val (((m (((0 : Dev nD) : Thread nD τ).loc main_arg1) (rowIdx i) : BitVec 32).toNat - 1) / 512), 0] := by
  have hi0 : (i 0).val < 16 := (i 0).isLt
  have e : (tbl m).at 0 (Rect.unit (s := S16) (k0_off1 i) S1.size (k0_off1_inb i)) numel1_S1
      = m (((0 : Dev nD) : Thread nD τ).loc main_arg1) (rowIdx i) := by
    rw [← V_unwritten m 0 main_arg1 (by decide), ← tabIdx]; rfl
  obtain ⟨⟨h1, h2⟩, -⟩ := h 0 (rowIdx i)
  have hmin := minsi_lastBlock (i 1).val (i 1).isLt _ h1 h2
  rw [← hmin, ← e]
  have hb : (BitVec.ofNat 32 (i 0).val).toNat = (i 0).val := by rw [BitVec.toNat_ofNat]; omega
  conv_rhs => rw [← hb]
  rfl

/-- The second input's index map, likewise. -/
theorem ix_1 (i : grid0.Coords) (h : InRange m) :
    cc0_transform_1 k0_off1_inb numel1_S1 (tbl m) i
      = ![(i 0).val, min (i 1).val (((m (((0 : Dev nD) : Thread nD τ).loc main_arg3) (rowIdx i) : BitVec 32).toNat - 1) / 512), 0] := by
  have hi0 : (i 0).val < 16 := (i 0).isLt
  have e : (tbl m).at 1 (Rect.unit (s := S16) (k0_off1 i) S1.size (k0_off1_inb i)) numel1_S1
      = m (((0 : Dev nD) : Thread nD τ).loc main_arg3) (rowIdx i) := by
    rw [← V_unwritten m 0 main_arg3 (by decide), ← tabIdx]; rfl
  obtain ⟨-, h1, h2⟩ := h 0 (rowIdx i)
  have hmin := minsi_lastBlock (i 1).val (i 1).isLt _ h1 h2
  rw [← hmin, ← e]
  have hb : (BitVec.ofNat 32 (i 0).val).toNat = (i 0).val := by rw [BitVec.toNat_ofNat]; omega
  conv_rhs => rw [← hb]
  rfl

/-- A block `[1, 512, 256]` at a batch row below 16 and a block number below 8 lies inside the array. -/
theorem block_inside (r j : ℕ) (hr : r < 16) (hj : j < 8) (a : Fin 3) :
    ((![r, j, 0] : Fin 3 → ℕ) a + 1) * S1x512x256.size a ≤ S16x4096x256.size a := by
  fin_cases a
  · show (r + 1) * 1 ≤ 16; omega
  · show (j + 1) * 512 ≤ 4096; omega
  · show (0 + 1) * 256 ≤ 256; omega

/-- Lengths in range: every block the index maps name lies inside its array. -/
theorem ok_of_inRange (h : InRange m) : Ok m := by
  refine ⟨fun i => ⟨fun a => ?_, Or.inl rfl⟩, fun i => ⟨fun a => ?_, Or.inl rfl⟩⟩
  · rw [ix_0 m i h]
    exact block_inside _ _ (i 0).isLt (Nat.lt_of_le_of_lt (min_le_left _ _) (i 1).isLt) a
  · rw [ix_1 m i h]
    exact block_inside _ _ (i 0).isLt (Nat.lt_of_le_of_lt (min_le_left _ _) (i 1).isLt) a

/-- Lengths in range: every batch row's first block is reached. -/
theorem first_of_inRange (h : InRange m) : First m := by
  intro c t ht
  obtain ⟨⟨a1, a2⟩, b1, b2⟩ := h c (rowIdx (grid0.coords t))
  rw [wd0_eq, wd1_eq]
  exact ⟨(reached_iff _ _ a2).2 (by rw [ht]; exact a1), (reached_iff _ _ b2).2 (by rw [ht]; exact b1)⟩

end Cert.KernelIdeal.Pool

end
-- ==== Proof.Precondition.lean ====
/- The precondition, read: it says of both tables that every length is at least 1 and at most 4096. -/
module

public import proofs.«01_k».proof.Proof.Lengths
public import proofs.«01_k».proof.Proof.Gen.Pre_lengths_in_range

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A word the two signed comparisons admit is a natural between 1 and 4096. -/
theorem word_inRange (w : BitVec 32)
    (h : IntOp.andi (IntOp.cmpi .sge w 1#32) (IntOp.cmpi .sle w 4096#32) = 1#1) : 1 ≤ w.toNat ∧ w.toNat ≤ 4096 := by
  have hand : ∀ a b : BitVec 1, IntOp.andi a b = 1#1 → a = 1#1 ∧ b = 1#1 := by decide
  obtain ⟨h1, h2⟩ := hand _ _ h
  rw [WordCmp.cmpi_sge_eq, WordCmp.ofBool_decide_eq_one_iff] at h1
  rw [WordCmp.cmpi_sle_eq, WordCmp.ofBool_decide_eq_one_iff] at h2
  have e1 : (1#32).toInt = 1 := by decide
  have e2 : (4096#32).toInt = 4096 := by decide
  rw [e1] at h1
  rw [e2] at h2
  have hn := w.isLt
  rw [BitVec.toInt_eq_toNat_cond] at h1 h2
  split at h1 <;> split at h2 <;> omega

attribute [local instance] Cert.Pre_lengths_in_range.Gen.facts in
/-- The precondition's function at all ones puts every length in range. -/
theorem inRange_of_pre (h : ∀ c : Dev nD,
    Cert.Pre_lengths_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = fun _ => 1#1) : InRange m := by
  intro c r
  have hr := congrFun (h c) r
  have hand : ∀ a b : BitVec 1, IntOp.andi a b = 1#1 → a = 1#1 ∧ b = 1#1 := by decide
  obtain ⟨h1, h3⟩ := hand _ _ hr
  exact ⟨word_inRange _ h1, word_inRange _ h3⟩

end Cert.KernelIdeal.Pool

end
-- ==== Proof.Transfer.lean ====
/- The kernel's program and its idealization's are one program: nothing was rewritten, so what is proved of the one at any
   float type is proved of the other. -/
module

public import proofs.«01_k».proof.Proof.Launched
public import proofs.«01_k».proof.Proof.Precondition
public import proofs.«01_k».proof.Proof.Gen.Kernel
public import proofs.«01_k».proof.Proof.Gen.Kernel.Launch

@[expose] public section

set_option maxRecDepth 16384

noncomputable section

namespace Cert.Kernel.Pool

open Idealize.ShloMosaic Idealize.ShloMosaic.TcCoe Idealize.SL.Sem

variable {F : FTy → Type} [FloatOps F]

attribute [local instance] Cert.Kernel.Gen.facts Cert.KernelIdeal.Gen.facts

set_option maxHeartbeats 16000000 in
/-- The two programs' body tables are one: their one row is the same body. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | ⟨_ + 1, h⟩, _ => exact absurd h (by omega)

set_option maxHeartbeats 16000000 in
/-- So are their whole tables. -/
theorem defs_eq : Cert.Kernel.defs (F := F) = Cert.KernelIdeal.defs (F := F) := by
  unfold Cert.Kernel.defs Cert.KernelIdeal.defs
  rw [defs₀_eq]
  rfl

set_option maxHeartbeats 16000000 in
/-- And their host programs. -/
theorem main_eq : Cert.Kernel.main (F := F) = Cert.KernelIdeal.main (F := F) := rfl

end Cert.Kernel.Pool

end
-- ==== Proof.Frames.lean ====
/- The frames: each program runs to the end, its arguments unchanged and its counters at zero. -/
module

public import proofs.«01_k».proof.Defs
public import proofs.«01_k».proof.Proof.Transfer
public import proofs.«01_k».proof.Proof.Gen.ReferenceIdeal.Run

@[expose] public section

set_option maxRecDepth 16384

noncomputable section

namespace Cert.Pool

open Idealize.ShloMosaic Idealize.ShloMosaic.TcCoe Idealize.SL.Sem

attribute [local instance] Cert.Kernel.Gen.facts Cert.KernelIdeal.Gen.facts Cert.ReferenceIdeal.Gen.facts
  Cert.Pre_lengths_in_range.Gen.facts

/-- The idealization's frame. -/
theorem frame_ideal : Cert.quiescent_KernelIdeal := fun m g h =>
  have hR := Cert.KernelIdeal.Pool.inRange_of_pre m h
  (θ_run Cert.KernelIdeal.defs _ _).mono (fun _ hr => ⟨fun c => (hr.1 c).2, hr.2⟩)
    (Cert.KernelIdeal.Pool.run_value (F := Ideal) m g (Cert.KernelIdeal.Pool.ok_of_inRange m hR)
      (Cert.KernelIdeal.Pool.first_of_inRange m hR))

/-- The kernel's frame: its program is the idealization's, read at the bit-exact floats. -/
theorem frame_kernel : Cert.quiescent_Kernel := fun m g h => by
  rw [Cert.Kernel.Pool.defs_eq, Cert.Kernel.Pool.main_eq]
  exact (have hR := Cert.KernelIdeal.Pool.inRange_of_pre (F := Bits) m h
    (θ_run Cert.KernelIdeal.defs _ _).mono (fun _ hr => ⟨fun c => (hr.1 c).2, hr.2⟩)
      (Cert.KernelIdeal.Pool.run_value (F := Bits) m g (Cert.KernelIdeal.Pool.ok_of_inRange m hR)
        (Cert.KernelIdeal.Pool.first_of_inRange m hR)))

/-- The reference's frame: it is host operations only, and has no semaphores. -/
theorem frame_reference : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-- The reference's frame under the lengths' range, which it does not need. -/
theorem frame_reference_pre : Cert.quiescent_ReferenceIdeal_pre_lengths_in_range := fun m g _ => frame_reference m g trivial

end Cert.Pool

end
-- ==== Proof.Pooled.lean ====
/- The accumulators at the extended reals: after the last point, row `r` column `q` of an accumulator is the sum over all
   positions of the input's elements times the indicator that the position is below the row's length. -/
module

public import proofs.«01_k».proof.Proof.Fold
public import proofs.«01_k».proof.Proof.Lengths
public import Idealize.ShloMosaic.PureOps.Ideal
public import Idealize.ShloMosaic.PureOps.Ideal.Laws
public import Idealize.ShloMosaic.Lib.ValueLayout
public import Idealize.ShloMosaic.Lib.WordArith
public import Idealize.ShloMosaic.Lib.Pipeline.Value

@[expose] public section

set_option maxRecDepth 16384

noncomputable section

namespace Cert.KernelIdeal.Pool

open Cert.KernelIdeal.Gen
open Idealize.ShloMosaic Idealize.ShloMosaic.ValueIdx

/-- One where position `p` is below the length, zero elsewhere. -/
def mask (w : BitVec 32) (p : ℕ) : EReal := if p < w.toNat then 1 else 0

/-- The element at a position of batch row `r`, column `q`, times the mask; zero past the array. -/
def term (X : S16x4096x256.Idx → EReal) (len : S16.Idx → BitVec 32) (r : Fin 16) (q : Fin 256) (p : ℕ) : EReal :=
  if h : p < 4096 then X (ix3 r ⟨p, h⟩ q) * mask (len (ix1 r)) p else 0

/-- The masked sum over all positions. -/
def pool (X : S16x4096x256.Idx → EReal) (len : S16.Idx → BitVec 32) (y : S16x256.Idx) : EReal :=
  ∑ p : Fin 4096, X (ix3 (y 0) p (y 1)) * mask (len (ix1 (y 0))) p.val

/-- The kernel's mask at a position: the comparison's bit, widened and converted, is the indicator. -/
theorem mask_word (j k : ℕ) (hj : j < 8) (hk : k < 512) (w : BitVec 32) (hw : w.toNat ≤ 4096) :
    (((IntOp.cmpi .slt (IntOp.addi (BitVec.ofNat 32 k) (Scalar.muli (BitVec.ofNat 32 j) 512#32)) w).setWidth 32).toInt : ℝ)
      = (if 512 * j + k < w.toNat then (1 : ℝ) else 0) := by
  have ha : IntOp.addi (BitVec.ofNat 32 k) (Scalar.muli (BitVec.ofNat 32 j) 512#32) = BitVec.ofNat 32 (512 * j + k) := by
    apply BitVec.eq_of_toNat_eq
    show (BitVec.ofNat 32 k + BitVec.ofNat 32 j * 512#32).toNat = _
    rw [BitVec.toNat_add, BitVec.toNat_mul, BitVec.toNat_ofNat, BitVec.toNat_ofNat, BitVec.toNat_ofNat, BitVec.toNat_ofNat]
    omega
  have hwo : w = BitVec.ofNat 32 w.toNat := by rw [BitVec.ofNat_toNat, BitVec.setWidth_eq]
  have hc : IntOp.cmpi .slt (BitVec.ofNat 32 (512 * j + k)) w = BitVec.ofBool (decide (512 * j + k < w.toNat)) := by
    conv_lhs => rw [hwo]
    exact WordCmp.cmpi_slt_ofNat (w := 32) (by norm_num; omega) (by norm_num; omega)
  rw [ha, hc]
  by_cases h : 512 * j + k < w.toNat
  · rw [if_pos h, decide_eq_true h]
    have : ((BitVec.ofBool true).setWidth 32).toInt = 1 := by decide
    rw [this]; norm_num
  · rw [if_neg h, decide_eq_false h]
    have : ((BitVec.ofBool false).setWidth 32).toInt = 0 := by decide
    rw [this]; norm_num

/-- A block's masked sum, column by column. -/
theorem pay2_apply (i : grid0.Coords) (w : BitVec 32) (hw : w.toNat ≤ 4096) (b : Vec Ideal S1x512x256 .f32) (q : Fin 256) :
    k0_pay2 (F := Ideal) i w b (ix2 (0 : Fin 1) q)
      = ∑ k : Fin 512, b (ix3 (0 : Fin 1) k q) * mask w (512 * (i 1).val + k.val) := by
  unfold k0_pay2
  refine (shapeCast_a_1a_apply _ _ _ _).trans ?_
  refine (Ideal.multiReduction_add_single _ _ _ _ _ _).trans ?_
  refine Finset.sum_congr rfl fun k _ => ?_
  have hk : k.val < 512 := k.isLt
  have e : reduces_S512x256_S256.lift (ix1 q) k = ix2 (⟨k.val, hk⟩ : Fin 512) q := by
    funext a
    fin_cases a <;> rfl
  rw [e]
  show shapeCast S512x256 b shapeCasts_S1x512x256_S512x256 (ix2 (⟨k.val, hk⟩ : Fin 512) q) * _ = _
  rw [shapeCast_1ab_ab_apply]
  refine congrArg (b (ix3 (0 : Fin 1) k q) * ·) ?_
  have hm := mask_word (i 1).val k.val (i 1).isLt hk w hw
  unfold mask
  unfold k0_pay1
  have hi : iota .tc S512x256 32 [0] iota_S512x256_d0_w32 (ix2 (⟨k.val, hk⟩ : Fin 512) q) = BitVec.ofNat 32 k.val :=
    iota_single_apply ..
  show (((((IntOp.cmpi .slt (IntOp.addi (iota .tc S512x256 32 [0] iota_S512x256_d0_w32 (ix2 (⟨k.val, hk⟩ : Fin 512) q))
    (Scalar.muli (BitVec.ofNat 32 (i 1).val) 512#32)) w).setWidth 32).toInt : ℤ) : ℝ) : EReal) = _
  rw [hi, hm]
  split <;> simp

/-- A block's masked sum is the terms of its 512 positions, when the block read is the point's own. -/
theorem pay2_terms (X : S16x4096x256.Idx → EReal) (len : S16.Idx → BitVec 32) (i : grid0.Coords) (w : BitVec 32)
    (hw : w.toNat ≤ 4096) (b : Vec Ideal S1x512x256 .f32) (r : Fin 16) (q : Fin 256) (hlen : len (ix1 r) = w)
    (hb : ∀ (k : Fin 512) (h : 512 * (i 1).val + k.val < 4096),
      b (ix3 (0 : Fin 1) k q) = X (ix3 r ⟨512 * (i 1).val + k.val, h⟩ q)) :
    k0_pay2 (F := Ideal) i w b (ix2 (0 : Fin 1) q) = ∑ k ∈ Finset.range 512, term X len r q (512 * (i 1).val + k) := by
  rw [pay2_apply i w hw, Finset.sum_range]
  refine Finset.sum_congr rfl fun k _ => ?_
  have hk : 512 * (i 1).val + k.val < 4096 := by
    have h1 : (i 1).val < 8 := (i 1).isLt
    have h2 := k.isLt
    omega
  unfold term
  rw [dif_pos hk, hb k hk, hlen]

/-- Past a row's length every term is zero. -/
theorem term_past (X : S16x4096x256.Idx → EReal) (len : S16.Idx → BitVec 32) (r : Fin 16) (q : Fin 256) (p : ℕ)
    (h : (len (ix1 r)).toNat ≤ p) : term X len r q p = 0 := by
  unfold term
  split
  · unfold mask
    rw [if_neg (by omega), mul_zero]
  · rfl

/-- Before point `n`, a row whose first point is past holds the terms of the blocks gone through so far. -/
theorem fold_terms (wd : Fin grid0.N → BitVec 32) (bk : Fin grid0.N → Vec Ideal S1x512x256 .f32) (d : Vec Ideal S16x256 .f32)
    (X : S16x4096x256.Idx → EReal) (len : S16.Idx → BitVec 32)
    (hl : ∀ r, 1 ≤ (len r).toNat ∧ (len r).toNat ≤ 4096)
    (hw : ∀ t, wd t = len (rowIdx (grid0.coords t)))
    (hb : ∀ (t : Fin grid0.N), 512 * (grid0.coords t 1).val < (wd t).toNat → ∀ (r : Fin 16), r.val = (grid0.coords t 0).val →
      ∀ (q : Fin 256) (k : Fin 512) (h : 512 * (grid0.coords t 1).val + k.val < 4096),
      bk t (ix3 (0 : Fin 1) k q) = X (ix3 r ⟨512 * (grid0.coords t 1).val + k.val, h⟩ q))
    (n : ℕ) (hn : n ≤ grid0.N) (r : Fin 16) (q : Fin 256) (hy : 8 * r.val < n) :
    fold (F := Ideal) wd bk d n (ix2 r q) = ∑ p ∈ Finset.range (512 * min (n - 8 * r.val) 8), term X len r q p := by
  induction n generalizing r q with
  | zero => omega
  | succ n ih =>
    have hlt : n < grid0.N := hn
    rw [fold_succ (F := Ideal) wd bk d ⟨n, hlt⟩]
    have e0 := coord0 ⟨n, hlt⟩
    have e1 := coord1 ⟨n, hlt⟩
    have hwt := hw ⟨n, hlt⟩
    have hbt := hb ⟨n, hlt⟩
    simp only at e0 e1
    generalize grid0.coords ⟨n, hlt⟩ = i at e0 e1 hwt hbt ⊢
    by_cases h : r.val = (i 0).val
    · have hrow : rowIdx i = ix1 r := by
        funext a
        apply Fin.ext
        fin_cases a
        exact h.symm
      rw [hrow] at hwt
      have hle : (wd ⟨n, hlt⟩).toNat ≤ 4096 := hwt ▸ (hl _).2
      have hj : (i 1).val < 8 := (i 1).isLt
      have hm : 512 * min (n + 1 - 8 * r.val) 8 = 512 * (i 1).val + 512 := by omega
      rw [hm, Finset.sum_range_add]
      have hold : (i 1).val ≠ 0 → fold (F := Ideal) wd bk d n (ix2 r q) = ∑ p ∈ Finset.range (512 * (i 1).val), term X len r q p := by
        intro hz
        rw [ih (by omega) r q (by omega)]
        congr 2
        omega
      by_cases hr : Reached (F := Ideal) i (wd ⟨n, hlt⟩)
      · have hb' := pay2_terms X len i (wd ⟨n, hlt⟩) hle (bk ⟨n, hlt⟩) r q hwt.symm (hbt ((reached_iff _ _ hle).1 hr) r h q)
        rw [step_own _ _ _ _ (ix2 r q) h hr]
        by_cases hz : (i 1).val = 0
        · rw [if_pos hz]
          unfold k0_pay3
          rw [shapeCast_self]
          refine hb'.trans ?_
          rw [hz, Nat.mul_zero, Finset.range_zero, Finset.sum_empty, zero_add]
        · rw [if_neg hz]
          unfold k0_pay4
          rw [shapeCast_self]
          refine congrArg₂ (· + ·) ?_ hb'
          refine Eq.trans ?_ (hold hz)
          refine congrArg (fold (F := Ideal) wd bk d n) ?_
          funext a
          apply Fin.ext
          fin_cases a
          · exact h.symm
          · rfl
      · have hge : (wd ⟨n, hlt⟩).toNat ≤ 512 * (i 1).val := by
          have := mt (reached_iff (F := Ideal) _ _ hle).2 hr
          omega
        have h1 : 1 ≤ (wd ⟨n, hlt⟩).toNat := hwt ▸ (hl _).1
        have hz : (i 1).val ≠ 0 := by omega
        unfold step
        rw [if_neg hr, hold hz]
        rw [Finset.sum_eq_zero (s := Finset.range 512) fun k _ => term_past X len r q _ (by rw [← hwt]; omega), add_zero]
    · rw [step_other (F := Ideal) _ _ _ _ (ix2 r q) h, ih (by omega) r q (by omega)]
      congr 2
      omega

/-- After the last point an accumulator holds the masked sum over all positions. -/
theorem fold_pool (wd : Fin grid0.N → BitVec 32) (bk : Fin grid0.N → Vec Ideal S1x512x256 .f32) (d : Vec Ideal S16x256 .f32)
    (X : S16x4096x256.Idx → EReal) (len : S16.Idx → BitVec 32)
    (hl : ∀ r, 1 ≤ (len r).toNat ∧ (len r).toNat ≤ 4096)
    (hw : ∀ t, wd t = len (rowIdx (grid0.coords t)))
    (hb : ∀ (t : Fin grid0.N), 512 * (grid0.coords t 1).val < (wd t).toNat → ∀ (r : Fin 16), r.val = (grid0.coords t 0).val →
      ∀ (q : Fin 256) (k : Fin 512) (h : 512 * (grid0.coords t 1).val + k.val < 4096),
      bk t (ix3 (0 : Fin 1) k q) = X (ix3 r ⟨512 * (grid0.coords t 1).val + k.val, h⟩ q)) :
    fold (F := Ideal) wd bk d 128 = pool X len := by
  funext y
  obtain ⟨r, q, rfl⟩ : ∃ (r : Fin 16) (q : Fin 256), y = ix2 r q :=
    ⟨y 0, y 1, by funext a; fin_cases a <;> rfl⟩
  rw [fold_terms wd bk d X len hl hw hb 128 (le_of_eq rfl) r q (by have := r.isLt; omega)]
  have hm : 512 * min (128 - 8 * r.val) 8 = 4096 := by have := r.isLt; omega
  rw [hm, Finset.sum_range]
  refine Finset.sum_congr rfl fun p _ => ?_
  unfold term
  rw [dif_pos p.isLt]

end Cert.KernelIdeal.Pool

end
-- ==== Proof.Blocks.lean ====
/- What the blocks hold: an input's block at a reached point is the point's own 512 positions of its batch row, and the
   other windows' blocks are their whole arrays. -/
module

public import proofs.«01_k».proof.Proof.Pooled
public import Idealize.ShloMosaic.Lib.StableHlo.Run

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first input's block at a reached point. -/
theorem bk0_apply (hO : Ok m) (h : InRange m) (c : Dev nD) (t : Fin grid0.N)
    (ht : 512 * (grid0.coords t 1).val < (wd0 m c t : BitVec 32).toNat) (r : Fin 16) (hr : r.val = (grid0.coords t 0).val)
    (q : Fin 256) (k : Fin 512) (hk : 512 * (grid0.coords t 1).val + k.val < 4096) :
    bk0 m hO c t (ix3 (0 : Fin 1) k q)
      = m ((c : Thread nD τ).loc main_arg0) (ix3 r ⟨512 * (grid0.coords t 1).val + k.val, hk⟩ q) := by
  obtain rfl : c = 0 := Subsingleton.elim _ _
  rw [wd0_eq] at ht
  have hix := ix_0 m (grid0.coords t) h
  rw [← V_unwritten m 0 main_arg0 (by decide)]
  refine congrArg (V m 0 main_arg0) ?_
  funext a
  apply Fin.ext
  have e : ∀ a : Fin 3, cc0_transform_0 k0_off1_inb numel1_S1 (tbl m) (grid0.coords t) a
      = (![(grid0.coords t 0).val, min (grid0.coords t 1).val (((m (((0 : Dev nD) : Thread nD τ).loc main_arg1) (rowIdx (grid0.coords t)) : BitVec 32).toNat - 1) / 512), 0] : Fin 3 → ℕ) a :=
    fun a => congrFun hix a
  match a with
  | ⟨0, _⟩ =>
    show cc0_transform_0 k0_off1_inb numel1_S1 (tbl m) (grid0.coords t) 0 * 1 + 1 * 0 = r.val
    rw [e 0]
    show (grid0.coords t 0).val * 1 + 1 * 0 = r.val
    omega
  | ⟨1, _⟩ =>
    show cc0_transform_0 k0_off1_inb numel1_S1 (tbl m) (grid0.coords t) 1 * 512 + 1 * k.val = 512 * (grid0.coords t 1).val + k.val
    rw [e 1]
    show min (grid0.coords t 1).val (((m (((0 : Dev nD) : Thread nD τ).loc main_arg1) (rowIdx (grid0.coords t)) : BitVec 32).toNat - 1) / 512) * 512
      + 1 * k.val = _
    rw [Nat.min_eq_left (by omega)]
    omega
  | ⟨2, _⟩ =>
    show cc0_transform_0 k0_off1_inb numel1_S1 (tbl m) (grid0.coords t) 2 * 256 + 1 * q.val = q.val
    rw [e 2]
    show 0 * 256 + 1 * q.val = q.val
    omega

/-- The second input's block at a reached point. -/
theorem bk1_apply (hO : Ok m) (h : InRange m) (c : Dev nD) (t : Fin grid0.N)
    (ht : 512 * (grid0.coords t 1).val < (wd1 m c t : BitVec 32).toNat) (r : Fin 16) (hr : r.val = (grid0.coords t 0).val)
    (q : Fin 256) (k : Fin 512) (hk : 512 * (grid0.coords t 1).val + k.val < 4096) :
    bk1 m hO c t (ix3 (0 : Fin 1) k q)
      = m ((c : Thread nD τ).loc main_arg2) (ix3 r ⟨512 * (grid0.coords t 1).val + k.val, hk⟩ q) := by
  obtain rfl : c = 0 := Subsingleton.elim _ _
  rw [wd1_eq] at ht
  have hix := ix_1 m (grid0.coords t) h
  rw [← V_unwritten m 0 main_arg2 (by decide)]
  refine congrArg (V m 0 main_arg2) ?_
  funext a
  apply Fin.ext
  have e : ∀ a : Fin 3, cc0_transform_1 k0_off1_inb numel1_S1 (tbl m) (grid0.coords t) a
      = (![(grid0.coords t 0).val, min (grid0.coords t 1).val (((m (((0 : Dev nD) : Thread nD τ).loc main_arg3) (rowIdx (grid0.coords t)) : BitVec 32).toNat - 1) / 512), 0] : Fin 3 → ℕ) a :=
    fun a => congrFun hix a
  match a with
  | ⟨0, _⟩ =>
    show cc0_transform_1 k0_off1_inb numel1_S1 (tbl m) (grid0.coords t) 0 * 1 + 1 * 0 = r.val
    rw [e 0]
    show (grid0.coords t 0).val * 1 + 1 * 0 = r.val
    omega
  | ⟨1, _⟩ =>
    show cc0_transform_1 k0_off1_inb numel1_S1 (tbl m) (grid0.coords t) 1 * 512 + 1 * k.val = 512 * (grid0.coords t 1).val + k.val
    rw [e 1]
    show min (grid0.coords t 1).val (((m (((0 : Dev nD) : Thread nD τ).loc main_arg3) (rowIdx (grid0.coords t)) : BitVec 32).toNat - 1) / 512) * 512
      + 1 * k.val = _
    rw [Nat.min_eq_left (by omega)]
    omega
  | ⟨2, _⟩ =>
    show cc0_transform_1 k0_off1_inb numel1_S1 (tbl m) (grid0.coords t) 2 * 256 + 1 * q.val = q.val
    rw [e 2]
    show 0 * 256 + 1 * q.val = q.val
    omega

/-- What the region finds as the first lengths: a column of floats. -/
theorem V_v1 (c : Dev nD) :
    V m c main_v1 = shapeCast S16x1 (sitofp .f32 (m ((c : Thread nD τ).loc main_arg1)) : Vec F S16 .f32) shapeCasts_S16_S16x1 := by
  unfold V
  after_results
  rfl

/-- What the region finds as the second lengths: a column of floats. -/
theorem V_v3 (c : Dev nD) :
    V m c main_v3 = shapeCast S16x1 (sitofp .f32 (m ((c : Thread nD τ).loc main_arg3)) : Vec F S16 .f32) shapeCasts_S16_S16x1 := by
  unfold V
  after_results
  rfl

/-- What the region finds as the first bias: a row. -/
theorem V_v4 (c : Dev nD) : V m c main_v4 = shapeCast S1x512 (m ((c : Thread nD τ).loc main_arg5)) shapeCasts_S512_S1x512 := by
  unfold V
  after_results
  rfl

/-- What the region finds as the second bias: a row. -/
theorem V_v5 (c : Dev nD) : V m c main_v5 = shapeCast S1x128 (m ((c : Thread nD τ).loc main_arg7)) shapeCasts_S128_S1x128 := by
  unfold V
  after_results
  rfl

/-- An element's place in an array, from its place in the array's only block. -/
theorem only_block (n j : ℕ) : 0 * n + 1 * j = j := by omega

/-- The first lengths' block is the whole array. -/
theorem blk_2 (hO : Ok m) (c : Dev nD) (t : Fin (cfgM m hO).N) : blk m hO c 2 t = V m c main_v1 :=
  funext fun y => congrArg (V m c main_v1) (funext fun a => Fin.ext (match a with
    | ⟨0, _⟩ => only_block 16 _
    | ⟨1, _⟩ => only_block 1 _))

/-- The second lengths' block is the whole array. -/
theorem blk_3 (hO : Ok m) (c : Dev nD) (t : Fin (cfgM m hO).N) : blk m hO c 3 t = V m c main_v3 :=
  funext fun y => congrArg (V m c main_v3) (funext fun a => Fin.ext (match a with
    | ⟨0, _⟩ => only_block 16 _
    | ⟨1, _⟩ => only_block 1 _))

/-- The first weights' block is the whole array. -/
theorem blk_4 (hO : Ok m) (c : Dev nD) (t : Fin (cfgM m hO).N) : blk m hO c 4 t = V m c main_arg4 :=
  funext fun y => congrArg (V m c main_arg4) (funext fun a => Fin.ext (match a with
    | ⟨0, _⟩ => only_block 1024 _
    | ⟨1, _⟩ => only_block 512 _))

/-- The first bias's block is the whole array. -/
theorem blk_5 (hO : Ok m) (c : Dev nD) (t : Fin (cfgM m hO).N) : blk m hO c 5 t = V m c main_v4 :=
  funext fun y => congrArg (V m c main_v4) (funext fun a => Fin.ext (match a with
    | ⟨0, _⟩ => only_block 1 _
    | ⟨1, _⟩ => only_block 512 _))

/-- The second weights' block is the whole array. -/
theorem blk_6 (hO : Ok m) (c : Dev nD) (t : Fin (cfgM m hO).N) : blk m hO c 6 t = V m c main_arg6 :=
  funext fun y => congrArg (V m c main_arg6) (funext fun a => Fin.ext (match a with
    | ⟨0, _⟩ => only_block 512 _
    | ⟨1, _⟩ => only_block 128 _))

/-- The second bias's block is the whole array. -/
theorem blk_7 (hO : Ok m) (c : Dev nD) (t : Fin (cfgM m hO).N) : blk m hO c 7 t = V m c main_v5 :=
  funext fun y => congrArg (V m c main_v5) (funext fun a => Fin.ext (match a with
    | ⟨0, _⟩ => only_block 1 _
    | ⟨1, _⟩ => only_block 128 _))

end Cert.KernelIdeal.Pool

end
-- ==== Proof.Reference.lean ====
/- The reference at the extended reals: its result is a fixed function, `head`, of the two inputs' masked means and the
   weights, and a masked mean is the masked sum over all positions divided by the length. -/
module

public import proofs.«01_k».proof.Proof.Pooled
public import proofs.«01_k».proof.Proof.Gen.ReferenceIdeal.Run
public import Idealize.ShloMosaic.Lib.Pointwise.Reduce
public import Idealize.ShloMosaic.Lib.IdealHost

@[expose] public section

set_option maxRecDepth 16384

noncomputable section

namespace Cert.ReferenceIdeal.Pool

open Cert.ReferenceIdeal Cert.ReferenceIdeal.Gen
open Idealize.ShloMosaic hiding ix1 ix2 ix3
open Idealize.ShloMosaic.TcCoe Idealize.ShloMosaic.ValueIdx
open Cert.KernelIdeal.Pool (mask pool)

/-- The masked sum over all positions divided by the row's length. -/
def mean (X : S16x4096x256.Idx → EReal) (len : S16.Idx → BitVec 32) (y : S16x256.Idx) : EReal :=
  Ideal.div (pool X len y) (((len (ix1 (y 0))).toInt : ℝ) : EReal)

/-- The reference's masked mean, as its operations compute it. -/
def hostMean (X : Vec Ideal S16x4096x256 .f32) (len : IVec S16 32) : Vec Ideal S16x256 .f32 :=
  Host.divf (F := Ideal) (φ := .f32)
    (Host.reduceAdd (F := Ideal) (φ := .f32) (mulf X (broadcastInDim S16x4096x256 ![0, 1, 2] bcast_S16x4096x1_S16x4096x256_0_1_2
      (broadcastInDim S16x4096x1 ![0, 1] bcast_S16x4096_S16x4096x1_0_1 (uitofp .f32 (cmpi .slt
        (broadcastInDim S16x4096 ![0, 1] bcast_S1x4096_S16x4096_0_1 (broadcastInDim S1x4096 ![1] bcast_S4096_S1x4096_1 (iotaInDim S4096 32 0)))
        (broadcastInDim S16x4096 ![0, 1] bcast_S16x1_S16x4096_0_1 (broadcastInDim S16x1 ![0] bcast_S16_S16x1_0 len)))))))
      (constant S_ .f32 0x00000000#32) reducesTo_S16x4096x256_S16x256_d1 h_S_)
    (broadcastInDim S16x256 ![0, 1] bcast_S16x1_S16x256_0_1 (sitofp .f32 (broadcastInDim S16x1 ![0] bcast_S16_S16x1_0 len)))

/-- The two-layer perceptron over the joined features of the two means, as the reference's operations compute it. -/
def head (e1 e2 : Vec Ideal S16x256 .f32) (W1 : Vec Ideal S1024x512 .f32) (b1 : Vec Ideal S512 .f32)
    (W2 : Vec Ideal S512x128 .f32) (b2 : Vec Ideal S128 .f32) : Vec Ideal S16x128 .f32 :=
  addf (F := Ideal) (φ := .f32) (Host.dotGeneral (F := Ideal) (φ₁ := .f32) (φ₂ := .f32) dot_S16x512_S512x128_S16x128_1_0_0_1_n_n none
    (maximumf (F := Ideal) (φ := .f32) (addf (F := Ideal) (φ := .f32) (Host.dotGeneral (F := Ideal) (φ₁ := .f32) (φ₂ := .f32) dot_S16x1024_S1024x512_S16x512_1_0_0_1_n_n none
      (concatenate S16x1024 1 [⟨S16x256, e1⟩, ⟨S16x256, e2⟩, ⟨S16x256, Host.absf (F := Ideal) (φ := .f32) (subf (F := Ideal) (φ := .f32) e1 e2)⟩,
        ⟨S16x256, mulf (F := Ideal) (φ := .f32) e1 e2⟩] concatenates_S16x256_S16x256_S16x256_S16x256_S16x1024_d1) W1)
      (broadcastInDim S16x512 ![0, 1] bcast_S1x512_S16x512_0_1 (broadcastInDim S1x512 ![1] bcast_S512_S1x512_1 b1)))
      (broadcastInDim S16x512 ![] bcast_S_S16x512 (constant S_ .f32 0x00000000#32))) W2)
    (broadcastInDim S16x128 ![0, 1] bcast_S1x128_S16x128_0_1 (broadcastInDim S1x128 ![1] bcast_S128_S1x128_1 b2))

/-- The reference's result is the perceptron of its two masked means. -/
theorem res_eq (m : (ℓ : Loc nD τ sig) → Buf (Elt Ideal) ℓ) (c : Dev nD) :
    Value.res_main_v42 m c
      = head (hostMean (m ((c.tc : Thread nD τ).loc main_arg0)) (m ((c.tc : Thread nD τ).loc main_arg1)))
          (hostMean (m ((c.tc : Thread nD τ).loc main_arg2)) (m ((c.tc : Thread nD τ).loc main_arg3)))
          (m ((c.tc : Thread nD τ).loc main_arg4)) (m ((c.tc : Thread nD τ).loc main_arg5))
          (m ((c.tc : Thread nD τ).loc main_arg6)) (m ((c.tc : Thread nD τ).loc main_arg7)) := rfl

/-- The reference's mask at a position: the comparison's bit, converted, is the indicator. -/
theorem mask_host (p : ℕ) (hp : p < 4096) (w : BitVec 32) (hw : w.toNat ≤ 4096) :
    (((IntOp.cmpi .slt (BitVec.ofNat 32 p) w).toNat : ℝ) : EReal) = mask w p := by
  have hwo : w = BitVec.ofNat 32 w.toNat := by rw [BitVec.ofNat_toNat, BitVec.setWidth_eq]
  have hc : IntOp.cmpi .slt (BitVec.ofNat 32 p) w = BitVec.ofBool (decide (p < w.toNat)) := by
    conv_lhs => rw [hwo]
    exact WordCmp.cmpi_slt_ofNat (w := 32) (by norm_num; omega) (by norm_num; omega)
  rw [hc]
  unfold mask
  by_cases h : p < w.toNat
  · rw [if_pos h, decide_eq_true h]; simp
  · rw [if_neg h, decide_eq_false h]; simp

/-- A length spread along the second axis. -/
theorem len_spread {n : ℕ} {α : Type} (h : S16x1.BroadcastsInDim ⟨2, ![16, n]⟩ ![0, 1]) (len : S16.Idx → α) (r : Fin 16) (p : Fin n) :
    broadcastInDim ⟨2, ![16, n]⟩ ![0, 1] h (broadcastInDim S16x1 ![0] bcast_S16_S16x1_0 len) (ix2 r p) = len (ix1 r) := by
  rw [broadcastInDim_apply _ _ _ (ix2 r p) (ix2 r (0 : Fin 1)) (by intro a; fin_cases a <;> rfl)]
  exact broadcastInDim_apply _ _ _ _ (ix1 r) (by intro a; fin_cases a; rfl)

/-- The reference's masked mean is the masked sum over all positions divided by the length. -/
theorem hostMean_eq (X : Vec Ideal S16x4096x256 .f32) (len : IVec S16 32) (hl : ∀ r, (len r).toNat ≤ 4096) :
    hostMean X len = mean X len := by
  funext y
  obtain ⟨r, q, rfl⟩ : ∃ (r : Fin 16) (q : Fin 256), y = ix2 r q := ⟨y 0, y 1, by funext a; fin_cases a <;> rfl⟩
  unfold hostMean mean
  refine congrArg₂ Ideal.div ?_ ?_
  · refine (Ideal.hostReduceAdd_r3_a1 reducesTo_S16x4096x256_S16x256_d1 _ _ (ix2 r q)).trans ?_
    refine (congrArg₂ (· + ·) Ideal.ofBits_zero_f32 (Finset.sum_congr rfl fun p _ => ?_)).trans (zero_add _)
    refine congrArg (X (ix3 r p q) * ·) ?_
    refine (broadcastInDim_apply _ _ _ (ix3 r p q) (ix3 r p (0 : Fin 1)) (by intro a; fin_cases a <;> rfl)).trans ?_
    refine (broadcastInDim_apply _ _ _ (ix3 r p (0 : Fin 1)) (ix2 r p) (by intro a; fin_cases a <;> rfl)).trans ?_
    refine Eq.trans ?_ (mask_host p.val p.isLt (len (ix1 r)) (hl _))
    refine congrArg (fun b : BitVec 1 => ((b.toNat : ℝ) : EReal)) ?_
    refine congrArg₂ (IntOp.cmpi .slt) ?_ (len_spread _ len r p)
    refine (broadcastInDim_apply _ _ _ (ix2 r p) (ix2 (0 : Fin 1) p) (by intro a; fin_cases a <;> rfl)).trans ?_
    exact (broadcastInDim_apply _ _ _ (ix2 (0 : Fin 1) p) (ix1 p) (by intro a; fin_cases a; rfl)).trans rfl
  · refine (broadcastInDim_apply _ _ _ (ix2 r q) (ix2 r (0 : Fin 1)) (by intro a; fin_cases a <;> rfl)).trans ?_
    refine congrArg (fun b : BitVec 32 => ((b.toInt : ℝ) : EReal)) ?_
    exact broadcastInDim_apply _ _ _ _ (ix1 r) (by intro a; fin_cases a; rfl)

end Cert.ReferenceIdeal.Pool

end
-- ==== Proof.Value.lean ====
/- The equation: at the extended reals the kernel's result is the reference's. -/
module

public import proofs.«01_k».proof.Proof.Blocks
public import proofs.«01_k».proof.Proof.Reference
public import Idealize.ShloMosaic.Lib.ValueLayoutCasts

@[expose] public section

set_option maxRecDepth 16384

noncomputable section

namespace Cert.Pool

open Cert.KernelIdeal Cert.KernelIdeal.Gen Cert.KernelIdeal.Pool
open Idealize.ShloMosaic hiding ix1 ix2 ix3
open Idealize.ShloMosaic.TcCoe Idealize.ShloMosaic.ValueIdx
open Cert.ReferenceIdeal.Pool (mean hostMean head)

/-- A masked sum divided by the lengths' column, spread along the columns, is the masked mean. -/
theorem mean_eq (X : S16x4096x256.Idx → EReal) (len : IVec S16 32) :
    divf (F := Ideal) (φ := .f32) (pool X len) (broadcastTo S16x256 (shapeCast S16x1
      (shapeCast S16x1 (sitofp (F := Ideal) .f32 len) shapeCasts_S16_S16x1) shapeCasts_S16x1_S16x1) broadcasts_S16x1_S16x256) = mean X len := by
  funext y
  obtain ⟨r, q, rfl⟩ : ∃ (r : Fin 16) (q : Fin 256), y = ix2 r q := ⟨y 0, y 1, by funext a; fin_cases a <;> rfl⟩
  refine congrArg (Ideal.div (pool X len (ix2 r q))) ?_
  rw [shapeCast_self]
  refine (broadcastTo_apply _ _ (ix2 r q) (ix2 r (0 : Fin 1)) (by intro a; fin_cases a <;> rfl)).trans ?_
  exact shapeCast_a_a1_apply ..

/-- A bias given as a row and spread along the rows, in the kernel's operations and in the reference's. -/
theorem bias_eq {n : ℕ} (b : (⟨1, ![n]⟩ : Shape).Idx → EReal) (h : (⟨1, ![n]⟩ : Shape).ShapeCasts ⟨2, ![1, n]⟩)
    (h' : (⟨2, ![1, n]⟩ : Shape).ShapeCasts ⟨2, ![1, n]⟩) (hb : (⟨2, ![1, n]⟩ : Shape).Broadcasts ⟨2, ![16, n]⟩)
    (h1 : (⟨1, ![n]⟩ : Shape).BroadcastsInDim ⟨2, ![1, n]⟩ ![1]) (h2 : (⟨2, ![1, n]⟩ : Shape).BroadcastsInDim ⟨2, ![16, n]⟩ ![0, 1]) :
    broadcastTo ⟨2, ![16, n]⟩ (shapeCast ⟨2, ![1, n]⟩ (shapeCast ⟨2, ![1, n]⟩ b h) h') hb
      = broadcastInDim ⟨2, ![16, n]⟩ ![0, 1] h2 (broadcastInDim ⟨2, ![1, n]⟩ ![1] h1 b) := by
  funext y
  obtain ⟨r, q, rfl⟩ : ∃ (r : Fin 16) (q : Fin n), y = ix2 r q := ⟨y 0, y 1, by funext a; fin_cases a <;> rfl⟩
  have hq : q.val = if n = 1 then 0 else q.val := by
    split
    · have := q.isLt; omega
    · rfl
  rw [shapeCast_self, broadcastTo_1b_ab_apply, shapeCast_a_1a_apply,
    broadcastInDim_apply _ h2 _ (ix2 r q) (ix2 (0 : Fin 1) q) (by intro a; fin_cases a; exacts [rfl, hq]),
    broadcastInDim_apply _ h1 _ (ix2 (0 : Fin 1) q) (ix1 q) (by intro a; fin_cases a; exact hq)]

/-- A product added to zeros is the product. -/
theorem product_eq {s t u : Shape} (d : DotDims s t u) (l : FVec Ideal s .f32) (r : FVec Ideal t .f32) :
    matmul (F := Ideal) d none l r (constant u .f32 0x00000000#32)
      = Host.dotGeneral (F := Ideal) (φ₁ := .f32) (φ₂ := .f32) d none l r :=
  congrArg (Ideal.matmul d l r) (funext fun _ => Ideal.ofBits_zero_f32)

/-- The last point's payload is the reference's perceptron of the two means. -/
theorem pay8_eq (s0 s1 : Vec Ideal S16x256 .f32) (l0 l1 : Vec Ideal S16x1 .f32) (e0 e1 : Vec Ideal S16x256 .f32)
    (W1 : Vec Ideal S1024x512 .f32) (b1 : Vec Ideal S512 .f32) (W2 : Vec Ideal S512x128 .f32) (b2 : Vec Ideal S128 .f32)
    (h0 : divf (F := Ideal) (φ := .f32) s0 (broadcastTo S16x256 (shapeCast S16x1 l0 shapeCasts_S16x1_S16x1) broadcasts_S16x1_S16x256) = e0)
    (h1 : divf (F := Ideal) (φ := .f32) s1 (broadcastTo S16x256 (shapeCast S16x1 l1 shapeCasts_S16x1_S16x1) broadcasts_S16x1_S16x256) = e1) :
    k0_pay8 (F := Ideal) s0 l0 s1 l1 W1 (shapeCast S1x512 b1 shapeCasts_S512_S1x512) W2 (shapeCast S1x128 b2 shapeCasts_S128_S1x128)
      = head e0 e1 W1 b1 W2 b2 := by
  subst h0 h1
  unfold k0_pay8 head
  refine congrArg₂ (addf (F := Ideal) (φ := .f32)) ((product_eq _ _ _).trans ?_) (bias_eq b2 _ _ _ _ _)
  refine congrArg (fun x => Host.dotGeneral (F := Ideal) (φ₁ := .f32) (φ₂ := .f32) dot_S16x512_S512x128_S16x128_1_0_0_1_n_n none x W2) ?_
  refine congrArg₂ (maximumf (F := Ideal) (φ := .f32)) ?_ rfl
  exact congrArg₂ (addf (F := Ideal) (φ := .f32)) ((product_eq _ _ _).trans rfl) (bias_eq b1 _ _ _ _ _)

/-- At the extended reals the kernel's result, from lengths in range, is the reference's of the same arguments. -/
theorem result_eq (m : (ℓ : Loc nD τ sig) → Buf (Elt Ideal) ℓ) (hO : Ok m) (h : InRange m) (c : Dev nD) (t : Fin (cfgM m hO).N) :
    result m hO c t
      = head (hostMean (m ((c.tc : Thread nD τ).loc main_arg0)) (m ((c.tc : Thread nD τ).loc main_arg1)))
          (hostMean (m ((c.tc : Thread nD τ).loc main_arg2)) (m ((c.tc : Thread nD τ).loc main_arg3)))
          (m ((c.tc : Thread nD τ).loc main_arg4)) (m ((c.tc : Thread nD τ).loc main_arg5))
          (m ((c.tc : Thread nD τ).loc main_arg6)) (m ((c.tc : Thread nD τ).loc main_arg7)) := by
  have s0 : sum0 m hO c = pool (m ((c.tc : Thread nD τ).loc main_arg0)) (m ((c.tc : Thread nD τ).loc main_arg1)) :=
    fold_pool _ _ _ _ _ (fun r => (h c r).1) (wd0_eq m c) fun t ht r hr q k hk => bk0_apply m hO h c t ht r hr q k hk
  have s1 : sum1 m hO c = pool (m ((c.tc : Thread nD τ).loc main_arg2)) (m ((c.tc : Thread nD τ).loc main_arg3)) :=
    fold_pool _ _ _ _ _ (fun r => (h c r).2) (wd1_eq m c) fun t ht r hr q k hk => bk1_apply m hO h c t ht r hr q k hk
  rw [Cert.ReferenceIdeal.Pool.hostMean_eq _ _ fun r => (h c r).1.2, Cert.ReferenceIdeal.Pool.hostMean_eq _ _ fun r => (h c r).2.2]
  unfold result
  rw [s0, s1, blk_2, blk_3, blk_4, blk_5, blk_6, blk_7, V_v1, V_v3, V_v4, V_v5,
    V_unwritten m c main_arg4 (by decide), V_unwritten m c main_arg6 (by decide)]
  exact pay8_eq _ _ _ _ _ _ _ _ _ _ (mean_eq _ _) (mean_eq _ _)

end Cert.Pool

end
-- ==== Proof.Algebraic.lean ====
/- The value claim: kernel and reference, run from the same arguments, end with equal results. -/
module

public import proofs.«01_k».proof.Proof.Frames
public import proofs.«01_k».proof.Proof.Value

@[expose] public section

set_option maxRecDepth 16384

noncomputable section

namespace Cert.Pool

open Idealize.ShloMosaic Idealize.ShloMosaic.TcCoe Idealize.SL.Sem

attribute [local instance] Cert.KernelIdeal.Gen.facts Cert.ReferenceIdeal.Gen.facts Cert.Pre_lengths_in_range.Gen.facts

/-- From lengths in range, the kernel and the reference compute the same function over the extended reals. -/
theorem algebraic : Cert.algebraic_KernelIdeal_ReferenceIdeal := fun m g m' g' hpre hargs => by
  have hR := Cert.KernelIdeal.Pool.inRange_of_pre m hpre
  have hO := Cert.KernelIdeal.Pool.ok_of_inRange m hR
  refine ⟨fun c => Cert.KernelIdeal.Pool.result m hO c (Cert.KernelIdeal.Pool.lastPt m hO), ?_, ?_⟩
  · exact (θ_run Cert.KernelIdeal.defs _ _).mono (fun _ hr => hr.1)
      (Cert.KernelIdeal.Pool.run_value (F := Ideal) m g hO (Cert.KernelIdeal.Pool.first_of_inRange m hR))
  · refine (θ_run Cert.ReferenceIdeal.defs _ _).mono (fun r hr c => ⟨(hr c).1.trans ?_, (hr c).2⟩)
      (Cert.ReferenceIdeal.Value.run (F := Ideal) m' g')
    obtain ⟨a0, a1, a2, a3, a4, a5, a6, a7⟩ := hargs c
    rw [Cert.ReferenceIdeal.Pool.res_eq, a0, a1, a2, a3, a4, a5, a6, a7]
    exact (result_eq m hO hR c _).symm

end Cert.Pool

end
-- ==== Proof.lean ====
/- The certificate: the frames of the three programs, that the idealization is the kernel's own text, and that kernel and
   reference compute the same function over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_lengths_in_range
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_lengths_in_range.Gen.facts,
    Cert.Pool.frame_kernel, Cert.Pool.frame_ideal, Cert.Pool.frame_reference, Cert.Pool.frame_reference_pre, trivial,
    Cert.Pool.algebraic⟩

end Cert.Proof

end
